-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![8, 512, 8, 64]⟩ ⟨4, ![8, 8192, 8, 64]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![8, 512, 8, 64]⟩ ⟨4, ![8, 8192, 8, 64]⟩ 1 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S8x1x8x64 : Shape := ⟨4, ![8, 1, 8, 64]⟩
abbrev S8x512x8x64 : Shape := ⟨4, ![8, 512, 8, 64]⟩
abbrev S_ : Shape := ⟨0, ![]⟩

class Facts : Prop where
  bcast_S_S8x1x8x64 : S_.BroadcastsInDim S8x1x8x64 (![] : Fin 0 → Fin S8x1x8x64.rank)
  bcast_S_S8x512x8x64 : S_.BroadcastsInDim S8x512x8x64 (![] : Fin 0 → Fin S8x512x8x64.rank)

variable [Facts]

def fn {F : FTy → Type} [FloatOps F] (main_arg0 : FVec F S8x1x8x64 .f32) (main_arg1 : FVec F S8x512x8x64 .f32) (main_arg2 : FVec F S8x512x8x64 .f32) : IVec S8x1x8x64 1 × IVec S8x512x8x64 1 :=
  let main_v0 : FVec F S8x1x8x64 .f32 := Host.absf main_arg0
  let main_cst : FVec F S_ .f32 := constant S_ .f32 0x7F800000#32
  let main_v1 : FVec F S8x1x8x64 .f32 := broadcastInDim S8x1x8x64 ![] bcast_S_S8x1x8x64 main_cst
  let main_v2 : IVec S8x1x8x64 1 := cmpf .olt main_v0 main_v1
  let main_v3 : FVec F S8x512x8x64 .f32 := Host.absf main_arg1
  let main_cst_0 : FVec F S_ .f32 := constant S_ .f32 0x7F800000#32
  let main_v4 : FVec F S8x512x8x64 .f32 := broadcastInDim S8x512x8x64 ![] bcast_S_S8x512x8x64 main_cst_0
  let main_v5 : IVec S8x512x8x64 1 := cmpf .olt main_v3 main_v4
  (main_v2, main_v5)
-- ==== Pre_finite_qk_ReferenceIdeal.lean ====
abbrev S8x1x8x64 : Shape := ⟨4, ![8, 1, 8, 64]⟩
abbrev S8x8192x8x64 : Shape := ⟨4, ![8, 8192, 8, 64]⟩
abbrev S_ : Shape := ⟨0, ![]⟩

class Facts : Prop where
  bcast_S_S8x1x8x64 : S_.BroadcastsInDim S8x1x8x64 (![] : Fin 0 → Fin S8x1x8x64.rank)
  bcast_S_S8x8192x8x64 : S_.BroadcastsInDim S8x8192x8x64 (![] : Fin 0 → Fin S8x8192x8x64.rank)

variable [Facts]

def fn {F : FTy → Type} [FloatOps F] (main_arg0 : FVec F S8x1x8x64 .f32) (main_arg1 : FVec F S8x8192x8x64 .f32) (main_arg2 : FVec F S8x8192x8x64 .f32) : IVec S8x1x8x64 1 × IVec S8x8192x8x64 1 :=
  let main_v0 : FVec F S8x1x8x64 .f32 := Host.absf main_arg0
  let main_cst : FVec F S_ .f32 := constant S_ .f32 0x7F800000#32
  let main_v1 : FVec F S8x1x8x64 .f32 := broadcastInDim S8x1x8x64 ![] bcast_S_S8x1x8x64 main_cst
  let main_v2 : IVec S8x1x8x64 1 := cmpf .olt main_v0 main_v1
  let main_v3 : FVec F S8x8192x8x64 .f32 := Host.absf main_arg1
  let main_cst_0 : FVec F S_ .f32 := constant S_ .f32 0x7F800000#32
  let main_v4 : FVec F S8x8192x8x64 .f32 := broadcastInDim S8x8192x8x64 ![] bcast_S_S8x8192x8x64 main_cst_0
  let main_v5 : IVec S8x8192x8x64 1 := cmpf .olt main_v3 main_v4
  (main_v2, main_v5)
-- ==== Kernel.lean ====
abbrev S8x1x8x64 : Shape := ⟨4, ![8, 1, 8, 64]⟩
abbrev S8x512x8x64 : Shape := ⟨4, ![8, 512, 8, 64]⟩
abbrev S16x9x8x64 : Shape := ⟨4, ![16, 9, 8, 64]⟩
abbrev S15 : Shape := ⟨1, ![15]⟩
abbrev S16 : Shape := ⟨1, ![16]⟩
abbrev S_ : Shape := ⟨0, ![]⟩
abbrev S1 : Shape := ⟨1, ![1]⟩
abbrev S8x8x64 : Shape := ⟨3, ![8, 8, 64]⟩
abbrev S8x8x64x512 : Shape := ⟨4, ![8, 8, 64, 512]⟩
abbrev S8x8x64x1 : Shape := ⟨4, ![8, 8, 64, 1]⟩
abbrev S8x8x512 : Shape := ⟨3, ![8, 8, 512]⟩
abbrev S8x8 : Shape := ⟨2, ![8, 8]⟩
abbrev S8x8x1x512 : Shape := ⟨4, ![8, 8, 1, 512]⟩
abbrev S1x9x8x64 : Shape := ⟨4, ![1, 9, 8, 64]⟩
abbrev S9x8x64 : Shape := ⟨3, ![9, 8, 64]⟩
abbrev S1x8x8x64 : Shape := ⟨4, ![1, 8, 8, 64]⟩
abbrev S1x8x8 : Shape := ⟨3, ![1, 8, 8]⟩
abbrev S1x1x8x8 : Shape := ⟨4, ![1, 1, 8, 8]⟩
abbrev S8x8x1 : Shape := ⟨3, ![8, 8, 1]⟩

abbrev nBuf : Space → Nat
  | .hbm => 4
  | .vmem => 5
  | .smem => 0
  | _ => 0

abbrev bufTy : (tb : Table) → Fin (tcTables nBuf tb) → BufTy
  | .hbm, ⟨0, _⟩ => ⟨S8x1x8x64, .f32⟩
  | .hbm, ⟨1, _⟩ => ⟨S8x512x8x64, .f32⟩
  | .hbm, ⟨2, _⟩ => ⟨S8x512x8x64, .f32⟩
  | .hbm, ⟨3, _⟩ => ⟨S8x1x8x64, .f32⟩
  | .local _ .vmem, ⟨0, _⟩ => ⟨S8x1x8x64, .f32⟩
  | .local _ .vmem, ⟨1, _⟩ => ⟨S8x512x8x64, .f32⟩
  | .local _ .vmem, ⟨2, _⟩ => ⟨S8x512x8x64, .f32⟩
  | .local _ .vmem, ⟨3, _⟩ => ⟨S8x1x8x64, .f32⟩
  | .local _ .vmem, ⟨4, _⟩ => ⟨S16x9x8x64, .bf16⟩
  | _, _ => ⟨S8x1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 17 35 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 16

abbrev nD : Nat := 16
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v4 : BitVec 32 := Scalar.addi v2 c1_i32_2
  let c16_i32_3 : BitVec 32 := 16#32
  let v5 : BitVec 32 := Scalar.remsi v4 c16_i32_3
  let c1_i32_5 : BitVec 32 := 1#32
  let v8 : BitVec 32 := Scalar.muli v5 c1_i32_5
  let v9 : BitVec 32 := Scalar.addi c0_i32 v8
  v9.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 32 := Scalar.addi v2 c2_i32
  let c16_i32_6 : BitVec 32 := 16#32
  let v11 : BitVec 32 := Scalar.remsi v10 c16_i32_6
  let c1_i32_8 : BitVec 32 := 1#32
  let v14 : BitVec 32 := Scalar.muli v11 c1_i32_8
  let v15 : BitVec 32 := Scalar.addi c0_i32_9 v14
  v15.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v16 : BitVec 32 := Scalar.addi v2 c3_i32
  let c16_i32_10 : BitVec 32 := 16#32
  let v17 : BitVec 32 := Scalar.remsi v16 c16_i32_10
  let c1_i32_12 : BitVec 32 := 1#32
  let v20 : BitVec 32 := Scalar.muli v17 c1_i32_12
  let v21 : BitVec 32 := Scalar.addi c0_i32_13 v20
  v21.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v22 : BitVec 32 := Scalar.addi v2 c4_i32
  let c16_i32_14 : BitVec 32 := 16#32
  let v23 : BitVec 32 := Scalar.remsi v22 c16_i32_14
  let c1_i32_16 : BitVec 32 := 1#32
  let v26 : BitVec 32 := Scalar.muli v23 c1_i32_16
  let v27 : BitVec 32 := Scalar.addi c0_i32_17 v26
  v27.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v28 : BitVec 32 := Scalar.addi v2 c5_i32
  let c16_i32_18 : BitVec 32 := 16#32
  let v29 : BitVec 32 := Scalar.remsi v28 c16_i32_18
  let c1_i32_20 : BitVec 32 := 1#32
  let v32 : BitVec 32 := Scalar.muli v29 c1_i32_20
  let v33 : BitVec 32 := Scalar.addi c0_i32_21 v32
  v33.toNat
def k0_dev6 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v34 : BitVec 32 := Scalar.addi v2 c6_i32
  let c16_i32_22 : BitVec 32 := 16#32
  let v35 : BitVec 32 := Scalar.remsi v34 c16_i32_22
  let c1_i32_24 : BitVec 32 := 1#32
  let v38 : BitVec 32 := Scalar.muli v35 c1_i32_24
  let v39 : BitVec 32 := Scalar.addi c0_i32_25 v38
  v39.toNat
def k0_dev7 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v40 : BitVec 32 := Scalar.addi v2 c7_i32
  let c16_i32_26 : BitVec 32 := 16#32
  let v41 : BitVec 32 := Scalar.remsi v40 c16_i32_26
  let c1_i32_28 : BitVec 32 := 1#32
  let v44 : BitVec 32 := Scalar.muli v41 c1_i32_28
  let v45 : BitVec 32 := Scalar.addi c0_i32_29 v44
  v45.toNat
def k0_dev8 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v46 : BitVec 32 := Scalar.addi v2 c8_i32
  let c16_i32_30 : BitVec 32 := 16#32
  let v47 : BitVec 32 := Scalar.remsi v46 c16_i32_30
  let c1_i32_32 : BitVec 32 := 1#32
  let v50 : BitVec 32 := Scalar.muli v47 c1_i32_32
  let v51 : BitVec 32 := Scalar.addi c0_i32_33 v50
  v51.toNat
def k0_dev9 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v52 : BitVec 32 := Scalar.addi v2 c9_i32
  let c16_i32_34 : BitVec 32 := 16#32
  let v53 : BitVec 32 := Scalar.remsi v52 c16_i32_34
  let c1_i32_36 : BitVec 32 := 1#32
  let v56 : BitVec 32 := Scalar.muli v53 c1_i32_36
  let v57 : BitVec 32 := Scalar.addi c0_i32_37 v56
  v57.toNat
def k0_dev10 (d0 : Dev nD) : Nat :=
  let c0_i32_41 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v58 : BitVec 32 := Scalar.addi v2 c10_i32
  let c16_i32_38 : BitVec 32 := 16#32
  let v59 : BitVec 32 := Scalar.remsi v58 c16_i32_38
  let c1_i32_40 : BitVec 32 := 1#32
  let v62 : BitVec 32 := Scalar.muli v59 c1_i32_40
  let v63 : BitVec 32 := Scalar.addi c0_i32_41 v62
  v63.toNat
def k0_dev11 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v64 : BitVec 32 := Scalar.addi v2 c11_i32
  let c16_i32_42 : BitVec 32 := 16#32
  let v65 : BitVec 32 := Scalar.remsi v64 c16_i32_42
  let c1_i32_44 : BitVec 32 := 1#32
  let v68 : BitVec 32 := Scalar.muli v65 c1_i32_44
  let v69 : BitVec 32 := Scalar.addi c0_i32_45 v68
  v69.toNat
def k0_dev12 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v70 : BitVec 32 := Scalar.addi v2 c12_i32
  let c16_i32_46 : BitVec 32 := 16#32
  let v71 : BitVec 32 := Scalar.remsi v70 c16_i32_46
  let c1_i32_48 : BitVec 32 := 1#32
  let v74 : BitVec 32 := Scalar.muli v71 c1_i32_48
  let v75 : BitVec 32 := Scalar.addi c0_i32_49 v74
  v75.toNat
def k0_dev13 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v76 : BitVec 32 := Scalar.addi v2 c13_i32
  let c16_i32_50 : BitVec 32 := 16#32
  let v77 : BitVec 32 := Scalar.remsi v76 c16_i32_50
  let c1_i32_52 : BitVec 32 := 1#32
  let v80 : BitVec 32 := Scalar.muli v77 c1_i32_52
  let v81 : BitVec 32 := Scalar.addi c0_i32_53 v80
  v81.toNat
def k0_dev14 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v82 : BitVec 32 := Scalar.addi v2 c14_i32
  let c16_i32_54 : BitVec 32 := 16#32
  let v83 : BitVec 32 := Scalar.remsi v82 c16_i32_54
  let c1_i32_56 : BitVec 32 := 1#32
  let v86 : BitVec 32 := Scalar.muli v83 c1_i32_56
  let v87 : BitVec 32 := Scalar.addi c0_i32_57 v86
  v87.toNat
def k0_dev15 (d0 : Dev nD) : Nat :=
  let c0_i32_61 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v88 : BitVec 32 := Scalar.addi v2 c15_i32
  let c16_i32_58 : BitVec 32 := 16#32
  let v89 : BitVec 32 := Scalar.remsi v88 c16_i32_58
  let c1_i32_60 : BitVec 32 := 1#32
  let v92 : BitVec 32 := Scalar.muli v89 c1_i32_60
  let v93 : BitVec 32 := Scalar.addi c0_i32_61 v92
  v93.toNat
def k0_off2 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let c0_i32_77 : BitVec 32 := 0#32
  let c0_i32_78 : BitVec 32 := 0#32
  ![v2.toNat, 0, 0, 0]
def k0_off3 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_76 : BitVec 32 := 0#32
  let c0_i32_77 : BitVec 32 := 0#32
  let c0_i32_78 : BitVec 32 := 0#32
  ![v2.toNat, 0, 0, 0]
def k0_off4 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let c0_i32_84 : BitVec 32 := 0#32
  ![v2.toNat, 8, 0, 0]
def k0_off5 (d0 : Dev nD) (c1_i32_87 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v127 : BitVec 32 := Scalar.addi v2 c1_i32_87
  let c16_i32_88 : BitVec 32 := 16#32
  let v128 : BitVec 32 := Scalar.remsi v127 c16_i32_88
  ![v128.toNat]
def k0_dev16 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_87 : BitVec 32 := 1#32
  let v127 : BitVec 32 := Scalar.addi v2 c1_i32_87
  let c16_i32_88 : BitVec 32 := 16#32
  let v128 : BitVec 32 := Scalar.remsi v127 c16_i32_88
  let c1_i32_92 : BitVec 32 := 1#32
  let v131 : BitVec 32 := Scalar.muli v128 c1_i32_92
  let v132 : BitVec 32 := Scalar.addi c0_i32_93 v131
  v132.toNat
def k0_dev17 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_100 : BitVec 32 := 2#32
  let v141 : BitVec 32 := Scalar.addi v2 c2_i32_100
  let c16_i32_101 : BitVec 32 := 16#32
  let v142 : BitVec 32 := Scalar.remsi v141 c16_i32_101
  let c1_i32_105 : BitVec 32 := 1#32
  let v145 : BitVec 32 := Scalar.muli v142 c1_i32_105
  let v146 : BitVec 32 := Scalar.addi c0_i32_106 v145
  v146.toNat
def k0_dev18 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_113 : BitVec 32 := 3#32
  let v155 : BitVec 32 := Scalar.addi v2 c3_i32_113
  let c16_i32_114 : BitVec 32 := 16#32
  let v156 : BitVec 32 := Scalar.remsi v155 c16_i32_114
  let c1_i32_118 : BitVec 32 := 1#32
  let v159 : BitVec 32 := Scalar.muli v156 c1_i32_118
  let v160 : BitVec 32 := Scalar.addi c0_i32_119 v159
  v160.toNat
def k0_dev19 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_126 : BitVec 32 := 4#32
  let v169 : BitVec 32 := Scalar.addi v2 c4_i32_126
  let c16_i32_127 : BitVec 32 := 16#32
  let v170 : BitVec 32 := Scalar.remsi v169 c16_i32_127
  let c1_i32_131 : BitVec 32 := 1#32
  let v173 : BitVec 32 := Scalar.muli v170 c1_i32_131
  let v174 : BitVec 32 := Scalar.addi c0_i32_132 v173
  v174.toNat
def k0_dev20 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_139 : BitVec 32 := 5#32
  let v183 : BitVec 32 := Scalar.addi v2 c5_i32_139
  let c16_i32_140 : BitVec 32 := 16#32
  let v184 : BitVec 32 := Scalar.remsi v183 c16_i32_140
  let c1_i32_144 : BitVec 32 := 1#32
  let v187 : BitVec 32 := Scalar.muli v184 c1_i32_144
  let v188 : BitVec 32 := Scalar.addi c0_i32_145 v187
  v188.toNat
def k0_dev21 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_152 : BitVec 32 := 6#32
  let v197 : BitVec 32 := Scalar.addi v2 c6_i32_152
  let c16_i32_153 : BitVec 32 := 16#32
  let v198 : BitVec 32 := Scalar.remsi v197 c16_i32_153
  let c1_i32_157 : BitVec 32 := 1#32
  let v201 : BitVec 32 := Scalar.muli v198 c1_i32_157
  let v202 : BitVec 32 := Scalar.addi c0_i32_158 v201
  v202.toNat
def k0_dev22 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_165 : BitVec 32 := 7#32
  let v211 : BitVec 32 := Scalar.addi v2 c7_i32_165
  let c16_i32_166 : BitVec 32 := 16#32
  let v212 : BitVec 32 := Scalar.remsi v211 c16_i32_166
  let c1_i32_170 : BitVec 32 := 1#32
  let v215 : BitVec 32 := Scalar.muli v212 c1_i32_170
  let v216 : BitVec 32 := Scalar.addi c0_i32_171 v215
  v216.toNat
def k0_dev23 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_178 : BitVec 32 := 8#32
  let v225 : BitVec 32 := Scalar.addi v2 c8_i32_178
  let c16_i32_179 : BitVec 32 := 16#32
  let v226 : BitVec 32 := Scalar.remsi v225 c16_i32_179
  let c1_i32_183 : BitVec 32 := 1#32
  let v229 : BitVec 32 := Scalar.muli v226 c1_i32_183
  let v230 : BitVec 32 := Scalar.addi c0_i32_184 v229
  v230.toNat
def k0_dev24 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_191 : BitVec 32 := 9#32
  let v239 : BitVec 32 := Scalar.addi v2 c9_i32_191
  let c16_i32_192 : BitVec 32 := 16#32
  let v240 : BitVec 32 := Scalar.remsi v239 c16_i32_192
  let c1_i32_196 : BitVec 32 := 1#32
  let v243 : BitVec 32 := Scalar.muli v240 c1_i32_196
  let v244 : BitVec 32 := Scalar.addi c0_i32_197 v243
  v244.toNat
def k0_dev25 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_204 : BitVec 32 := 10#32
  let v253 : BitVec 32 := Scalar.addi v2 c10_i32_204
  let c16_i32_205 : BitVec 32 := 16#32
  let v254 : BitVec 32 := Scalar.remsi v253 c16_i32_205
  let c1_i32_209 : BitVec 32 := 1#32
  let v257 : BitVec 32 := Scalar.muli v254 c1_i32_209
  let v258 : BitVec 32 := Scalar.addi c0_i32_210 v257
  v258.toNat
def k0_dev26 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_217 : BitVec 32 := 11#32
  let v267 : BitVec 32 := Scalar.addi v2 c11_i32_217
  let c16_i32_218 : BitVec 32 := 16#32
  let v268 : BitVec 32 := Scalar.remsi v267 c16_i32_218
  let c1_i32_222 : BitVec 32 := 1#32
  let v271 : BitVec 32 := Scalar.muli v268 c1_i32_222
  let v272 : BitVec 32 := Scalar.addi c0_i32_223 v271
  v272.toNat
def k0_dev27 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_230 : BitVec 32 := 12#32
  let v281 : BitVec 32 := Scalar.addi v2 c12_i32_230
  let c16_i32_231 : BitVec 32 := 16#32
  let v282 : BitVec 32 := Scalar.remsi v281 c16_i32_231
  let c1_i32_235 : BitVec 32 := 1#32
  let v285 : BitVec 32 := Scalar.muli v282 c1_i32_235
  let v286 : BitVec 32 := Scalar.addi c0_i32_236 v285
  v286.toNat
def k0_dev28 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_243 : BitVec 32 := 13#32
  let v295 : BitVec 32 := Scalar.addi v2 c13_i32_243
  let c16_i32_244 : BitVec 32 := 16#32
  let v296 : BitVec 32 := Scalar.remsi v295 c16_i32_244
  let c1_i32_248 : BitVec 32 := 1#32
  let v299 : BitVec 32 := Scalar.muli v296 c1_i32_248
  let v300 : BitVec 32 := Scalar.addi c0_i32_249 v299
  v300.toNat
def k0_dev29 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_256 : BitVec 32 := 14#32
  let v309 : BitVec 32 := Scalar.addi v2 c14_i32_256
  let c16_i32_257 : BitVec 32 := 16#32
  let v310 : BitVec 32 := Scalar.remsi v309 c16_i32_257
  let c1_i32_261 : BitVec 32 := 1#32
  let v313 : BitVec 32 := Scalar.muli v310 c1_i32_261
  let v314 : BitVec 32 := Scalar.addi c0_i32_262 v313
  v314.toNat
def k0_dev30 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_269 : BitVec 32 := 15#32
  let v323 : BitVec 32 := Scalar.addi v2 c15_i32_269
  let c16_i32_270 : BitVec 32 := 16#32
  let v324 : BitVec 32 := Scalar.remsi v323 c16_i32_270
  let c1_i32_274 : BitVec 32 := 1#32
  let v327 : BitVec 32 := Scalar.muli v324 c1_i32_274
  let v328 : BitVec 32 := Scalar.addi c0_i32_275 v327
  v328.toNat
def k0_off6 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v337 : Index := Scalar.indexCast v2
  let c0_282 : Index := 0#32
  let c0_283 : Index := 0#32
  let c0_284 : Index := 0#32
  ![v337.toNat, 0, 0, 0]
def k0_off7 (d0 : Dev nD) (c1_i32_285 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v341 : BitVec 32 := Scalar.subi v2 c1_i32_285
  let c16_i32_286 : BitVec 32 := 16#32
  let v342 : BitVec 32 := Scalar.addi v341 c16_i32_286
  let c16_i32_287 : BitVec 32 := 16#32
  let v343 : BitVec 32 := Scalar.remsi v342 c16_i32_287
  ![v343.toNat]
def k0_off8 (d0 : Dev nD) (c1_i32_285 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v341 : BitVec 32 := Scalar.subi v2 c1_i32_285
  let c16_i32_286 : BitVec 32 := 16#32
  let v342 : BitVec 32 := Scalar.addi v341 c16_i32_286
  let c16_i32_287 : BitVec 32 := 16#32
  let v343 : BitVec 32 := Scalar.remsi v342 c16_i32_287
  let c0_i32_291 : BitVec 32 := 0#32
  let c0_i32_292 : BitVec 32 := 0#32
  let c0_i32_293 : BitVec 32 := 0#32
  ![v343.toNat, 0, 0, 0]
def k0_off9 (d0 : Dev nD) (c1_i32_285 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v341 : BitVec 32 := Scalar.subi v2 c1_i32_285
  let c16_i32_286 : BitVec 32 := 16#32
  let v342 : BitVec 32 := Scalar.addi v341 c16_i32_286
  let c16_i32_287 : BitVec 32 := 16#32
  let v343 : BitVec 32 := Scalar.remsi v342 c16_i32_287
  let v352 : Index := Scalar.indexCast v343
  let c0_297 : Index := 0#32
  let c0_298 : Index := 0#32
  let c0_299 : Index := 0#32
  ![v352.toNat, 0, 0, 0]
abbrev stage0_0 : Fin 1 → Memref sig .tc .vmem S8x1x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x1x8x64 : Shape := ⟨4, ![8, 1, 8, 64]⟩
abbrev S8x8192x8x64 : Shape := ⟨4, ![8, 8192, 8, 64]⟩
abbrev S8x8x1x8192 : Shape := ⟨4, ![8, 8, 1, 8192]⟩
abbrev S_ : Shape := ⟨0, ![]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 20
  | .vmem => 0
  | .smem => 0
  | _ => 0

abbrev bufTy : (tb : Table) → Fin (tcTables nBuf tb) → BufTy
  | .hbm, ⟨0, _⟩ => ⟨S8x1x8x64, .f32⟩
  | .hbm, ⟨1, _⟩ => ⟨S8x8192x8x64, .f32⟩
  | .hbm, ⟨2, _⟩ => ⟨S8x8192x8x64, .f32⟩
  | .hbm, ⟨3, _⟩ => ⟨S8x8x1x8192, .f32⟩
  | .hbm, ⟨4, _⟩ => ⟨S_, .f32⟩
  | .hbm, ⟨5, _⟩ => ⟨S8x8x1x8192, .f32⟩
  | .hbm, ⟨6, _⟩ => ⟨S8x8x1x8192, .f32⟩
  | .hbm, ⟨7, _⟩ => ⟨S_, .f32⟩
  | .hbm, ⟨8, _⟩ => ⟨S8x8x1, .f32⟩
  | .hbm, ⟨9, _⟩ => ⟨S8x8x1x1, .f32⟩
  | .hbm, ⟨10, _⟩ => ⟨S8x8x1x8192, .f32⟩
  | .hbm, ⟨11, _⟩ => ⟨S8x8x1x8192, .f32⟩
  | .hbm, ⟨12, _⟩ => ⟨S8x8x1x8192, .f32⟩
  | .hbm, ⟨13, _⟩ => ⟨S_, .f32⟩
  | .hbm, ⟨14, _⟩ => ⟨S8x8x1, .f32⟩
  | .hbm, ⟨15, _⟩ => ⟨S8x8x1x1, .f32⟩
  | .hbm, ⟨16, _⟩ => ⟨S8x8x1x8192, .f32⟩
  | .hbm, ⟨17, _⟩ => ⟨S8x8x1x8192, .f32⟩
  | .hbm, ⟨18, _⟩ => ⟨S8x8x64x1, .f32⟩
  | .hbm, ⟨19, _⟩ => ⟨S8x1x8x64, .f32⟩
  | _, _ => ⟨S8x1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Slots.lean ====
/-
# The exchange buffer: its sixteen slots and what each holds

Device `c`'s exchange buffer (`cc0_scratch0`) is sixteen slots of shape 9x8x64. Slot `s` of every device ends
up holding device `s`'s partial sums: rows 0 to 7 the weighted sums of V, row 8 (first eight lanes only) the
sums of the weights. The other lanes of row 8 are never written and hold anything.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.SL.BI.BigOpNat
public import Idealize.ShloMosaic.Lib.ValueIdxCore
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The resource algebra: the pipeline's rounds beside the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Who sends to whom -/

set_option backward.proofsInPublic true in
/-- The device that step `r` of device `c` sends to. -/
def tgt (c : Dev nD) (r : ℕ) : Dev nD := ⟨(c.val + r + 1) % 16, Nat.mod_lt _ (by decide)⟩
set_option backward.proofsInPublic true in
/-- The device whose block step `r` of device `c` receives. -/
def src (c : Dev nD) (r : ℕ) : Dev nD := ⟨(c.val + 15 - r) % 16, Nat.mod_lt _ (by decide)⟩

theorem tgt_ne (c : Dev nD) {r : ℕ} (h : r < 15) : tgt c r ≠ c := by
  intro he; have h1 := congrArg Fin.val he; have h2 : c.val < 16 := c.isLt; simp only [tgt] at h1; omega
theorem src_ne (c : Dev nD) {r : ℕ} (h : r < 15) : src c r ≠ c := by
  intro he; have h1 := congrArg Fin.val he; have h2 : c.val < 16 := c.isLt; simp only [src] at h1; omega

/-! ## The slots -/

abbrev cM : Memref sig .tc .vmem S16x9x8x64 .bf16 := Memref.whole cc0_scratch0
abbrev slotR (s : Dev nD) : Rect S16x9x8x64 := Rect.unit (s := S16x9x8x64) (k0_off2 s) S1x9x8x64.size (k0_off2_inb s)
/-- Slot `s` of the exchange buffer, as the copies name it. -/
abbrev slotM (s : Dev nD) : Memref sig .tc .vmem S9x8x64 .bf16 :=
  (cM.slice (slotR s) (fun _ => rfl)).squeeze S9x8x64 squeezes_S1x9x8x64_S9x8x64

/-- The elements of slot `s`. -/
def slotSet (s : Dev nD) : Finset S16x9x8x64.Idx := (slotR s).set

theorem slot_set (s : Dev nD) : (slotM s).view.set = slotSet s :=
  (View.set_reshape _ _).trans (View.set_slice_whole cc0_scratch0 (slotR s))
theorem slot_set' (s : Dev nD) : (cM.access (slotR s)).set = slotSet s := View.set_slice_whole cc0_scratch0 (slotR s)

theorem mem_slotSet (s : Dev nD) (i : S16x9x8x64.Idx) : i ∈ slotSet s ↔ (i 0).val = s.val := by
  unfold slotSet
  rw [Rect.mem_set_unit, k0_off2_eq]
  constructor
  · intro h; have := h 0; simp [S1x9x8x64] at this; omega
  · intro h a
    have hb := (i a).isLt
    fin_cases a <;> simp [S1x9x8x64, S16x9x8x64] at hb ⊢ <;> omega

theorem slot_disjoint {s t : Dev nD} (h : s ≠ t) : Disjoint (slotSet s) (slotSet t) := by
  rw [Finset.disjoint_left]
  intro i hi ht
  rw [mem_slotSet] at hi ht
  exact h (Fin.ext (hi.symm.trans ht))

theorem slot_cover : (Finset.univ : Finset (Dev nD)).biUnion slotSet = Finset.univ := by
  ext i
  simp only [Finset.mem_biUnion, Finset.mem_univ, true_and, iff_true]
  exact ⟨⟨(i 0).val, (i 0).isLt⟩, (mem_slotSet _ i).mpr rfl⟩

/-! ## What a slot holds -/

variable (m : (ℓ : Loc nD τ sig) → Buf (Elt F) ℓ)

/-- Device `c`'s blocks of Q, K and V as the region stages them. -/
def xq (c : Dev nD) : (cc0_stg0_0 : Ref sig .tc).ty.Contents (Elt F) :=
  (win0_0.blk (0 : Fin 1)).view.read (Elt F) (m ((c : Thread nD τ).loc main_arg0))
def xk (c : Dev nD) : (cc0_stg1_0 : Ref sig .tc).ty.Contents (Elt F) :=
  (win0_1.blk (0 : Fin 1)).view.read (Elt F) (m ((c : Thread nD τ).loc main_arg1))
def xv (c : Dev nD) : (cc0_stg2_0 : Ref sig .tc).ty.Contents (Elt F) :=
  (win0_2.blk (0 : Fin 1)).view.read (Elt F) (m ((c : Thread nD τ).loc main_arg2))

/-- The two values device `s` stores into its own slot: the weighted sums, and the sums of the weights. -/
def val4 (s : Dev nD) : Vec F S1x8x8x64 .bf16 := k0_pay4 (k0_pay3 (xq m s) (xk m s) (xv m s))
def val5 (s : Dev nD) : Vec F S1x1x8x8 .bf16 := k0_pay5 (k0_pay2 (xq m s) (xk m s))

/-- The lanes of a slot that are written. -/
def Used (j : S1x9x8x64.Idx) : Prop := (j 1).val < 8 ∨ (j 3).val < 8

/-- Device `s`'s partial sums laid out as a slot. -/
def slotVal (s : Dev nD) : Vec F S1x9x8x64 .bf16 := fun j =>
  if h : (j 1).val < 8 then val4 m s (ValueIdx.ix4 0 ⟨(j 1).val, h⟩ (j 2) (j 3))
  else val5 m s (ValueIdx.ix4 0 0 (j 2) ⟨(j 3).val % 8, Nat.mod_lt _ (by decide)⟩)

/-- The buffer `f` holds device `s`'s partial sums in slot `s`. -/
def Good (s : Dev nD) (f : (cc0_scratch0 : Ref sig .tc).ty.Contents (Elt F)) : Prop :=
  ∀ j : S1x9x8x64.Idx, Used j → (cM.access (slotR s)).read (Elt F) f j = slotVal m s j

theorem good_congr {s : Dev nD} {f g : (cc0_scratch0 : Ref sig .tc).ty.Contents (Elt F)}
    (h : ∀ i ∈ slotSet s, f i = g i) (hf : Good m s f) : Good m s g := fun j hj => by
  rw [← hf j hj, View.read_apply, View.read_apply, h]
  rw [← slot_set']; exact View.emb_mem_set _ j

/-! ## The stores into the own slot -/

abbrev rect3 (c : Dev nD) : Rect S16x9x8x64 := Rect.unit (s := S16x9x8x64) (k0_off3 c) S1x8x8x64.size (k0_off3_inb c)
abbrev rect4 (c : Dev nD) : Rect S16x9x8x64 := Rect.unit (s := S16x9x8x64) (k0_off4 c) S1x1x8x8.size (k0_off4_inb c)

theorem rect3_sub (c : Dev nD) : (cM.access (rect3 c)).setOn Finset.univ ⊆ slotSet c := by
  show ((View.whole cc0_scratch0).slice (rect3 c)).set ⊆ _
  rw [View.set_slice_whole]
  intro i hi
  rw [Rect.mem_set_unit, k0_off3_eq] at hi
  rw [mem_slotSet]
  have := hi 0; simp [S1x8x8x64] at this; omega
theorem rect4_sub (c : Dev nD) : (cM.access (rect4 c)).setOn Finset.univ ⊆ slotSet c := by
  show ((View.whole cc0_scratch0).slice (rect4 c)).set ⊆ _
  rw [View.set_slice_whole]
  intro i hi
  rw [Rect.mem_set_unit, k0_off4_eq] at hi
  rw [mem_slotSet]
  have := hi 0; simp [S1x1x8x8] at this; omega

/-- The own slot after both stores, over whatever it held. -/
def stored (c : Dev nD) (f : (cc0_scratch0 : Ref sig .tc).ty.Contents (Elt F)) : (cc0_scratch0 : Ref sig .tc).ty.Contents (Elt F) :=
  (cM.access (rect4 c)).write (Elt F) ((cM.access (rect3 c)).write (Elt F) f (val4 m c) Finset.univ) (val5 m c) Finset.univ

theorem good_stored (c : Dev nD) (f : (cc0_scratch0 : Ref sig .tc).ty.Contents (Elt F)) : Good m c (stored m c f) := by
  intro j hj
  have h0 : (j 0).val < 1 := (j 0).isLt
  have h1 : (j 1).val < 9 := (j 1).isLt
  have h2 : (j 2).val < 8 := (j 2).isLt
  have h3 : (j 3).val < 64 := (j 3).isLt
  unfold slotVal stored
  rw [View.read_apply]
  by_cases h : (j 1).val < 8
  · rw [dif_pos h]
    have he : (cM.access (slotR c)).emb j = (cM.access (rect3 c)).emb (ValueIdx.ix4 0 ⟨(j 1).val, h⟩ (j 2) (j 3)) := by
      refine funext fun a => Fin.ext ?_
      show (k0_off2 c) a + 1 * (j a).val = (k0_off3 c) a + 1 * _
      rw [k0_off2_eq, k0_off3_eq]
      fin_cases a
      · simp; omega
      all_goals rfl
    rw [he, View.write_of_not_mem, View.write_emb_of_mem _ _ (Finset.mem_univ _)]
    · rfl
    · show _ ∉ ((View.whole cc0_scratch0).slice (rect4 c)).set
      rw [View.set_slice_whole, Rect.mem_set_unit, k0_off4_eq]
      intro hh
      have := (hh 1).1
      have e1 : (((cM.access (rect3 c)).emb (ValueIdx.ix4 0 ⟨(j 1).val, h⟩ (j 2) (j 3))) 1).val = (k0_off3 c) 1 + 1 * (j 1).val := rfl
      rw [k0_off3_eq] at e1
      simp at e1 this
      omega
  · rw [dif_neg h]
    have hl : (j 3).val < 8 := hj.resolve_left h
    have he : (cM.access (slotR c)).emb j = (cM.access (rect4 c)).emb (ValueIdx.ix4 0 0 (j 2) ⟨(j 3).val % 8, Nat.mod_lt _ (by decide)⟩) := by
      refine funext fun a => Fin.ext ?_
      show (k0_off2 c) a + 1 * (j a).val = (k0_off4 c) a + 1 * _
      rw [k0_off2_eq, k0_off4_eq]
      fin_cases a
      · simp; omega
      · simp; omega
      · rfl
      · show 0 + 1 * (j 3).val = 0 + 1 * ((j 3).val % 8); omega
    rw [he, View.write_emb_of_mem _ _ (Finset.mem_univ _)]
    rfl

/-! ## The landing of a copy -/

/-- A copy of slot `s` onto slot `s` of another device leaves the source's contents on the slot. -/
theorem landed_eq (s : Dev nD) (fd fs : (cc0_scratch0 : Ref sig .tc).ty.Contents (Elt F)) :
    ∀ i ∈ slotSet s, (slotM s).view.write (Elt F) fd ((slotM s).view.read (Elt F) fs) Finset.univ i = fs i := by
  intro i hi
  rw [← slot_set] at hi
  obtain ⟨x, _, rfl⟩ := Finset.mem_map.mp hi
  rw [View.write_emb_of_mem _ _ (Finset.mem_univ _), View.read_apply, cast_cast, cast_eq]

/-! ## Points-to facts of the slots -/

/-- Share `q` of slot `s` on device `c`, holding `f` there. -/
def slotPts (q : PosShare TreeShare) (c s : Dev nD) (f : Buf (Elt F) ((c : Thread nD τ).loc cc0_scratch0)) : sProp 𝕄 :=
  (c : Thread nD τ).loc cc0_scratch0 ↦[slotSet s]{q} f

instance slotPts_storable (q : PosShare TreeShare) (c s : Dev nD) (f) : BI.Storable (upEmb : UEmb _ 𝕄) (slotPts (F := F) q c s f) := by
  unfold slotPts; infer_instance

omit [FloatOps F] in
/-- The whole buffer is its sixteen slots; -/
theorem slots_split (c : Dev nD) (f : Buf (Elt F) ((c : Thread nD τ).loc cc0_scratch0)) :
    ((c : Thread nD τ).loc cc0_scratch0 ↦{fullShare} f : sProp 𝕄) = bigSep Finset.univ fun s : Dev nD => slotPts fullShare c s f := by
  have h := pointsTo_biUnion (Val := Elt F) (Ix := Unit) (Name := ℕ) (U := UU) (Lvl := ℕ) (ℓ := (c : Thread nD τ).loc cc0_scratch0) (q := fullShare) (f := f)
    (Finset.univ : Finset (Dev nD)) slotSet (fun s _ t _ h => slot_disjoint h)
  rw [slot_cover] at h
  exact h

/-- and the slots, at whatever contents, make the whole buffer. -/
theorem slots_join (c : Dev nD) :
    (bigSep Finset.univ fun s : Dev nD => iprop(∃ f, slotPts (F := F) fullShare c s f) : sProp 𝕄)
      ⊢ iprop(∃ f, (c : Thread nD τ).loc cc0_scratch0 ↦{fullShare} f) := by
  haveI : Nonempty (Buf (Elt F) ((c : Thread nD τ).loc cc0_scratch0)) := ⟨fun _ => (Scalar.ofBits .bf16 0#16 : F .bf16)⟩
  refine (BI.bigSep_exists_pi (Y := fun _ => Buf (Elt F) ((c : Thread nD τ).loc cc0_scratch0)) Finset.univ (fun s f => slotPts (F := F) fullShare c s f)).trans ?_
  unfold slotPts
  iintro ⟨%fs, H⟩
  ihave H2 := (pointsTo_biUnion_join (Val := Elt F) (Ix := Unit) (Name := ℕ) (U := UU) (Lvl := ℕ) (ℓ := (c : Thread nD τ).loc cc0_scratch0) (q := fullShare)
    (Finset.univ : Finset (Dev nD)) slotSet fs (fs c) (fun s _ t _ h => slot_disjoint h)) $$ H
  icases H2 with ⟨%g, -, H⟩
  iexists g
  rw [slot_cover]
  iexact H

omit [FloatOps F] in
/-- The shares of a slot lent out, each back at contents of its own, join the part kept. -/
theorem shares_join (c s : Dev nD) (f : Buf (Elt F) ((c : Thread nD τ).loc cc0_scratch0)) :
    iprop(slotPts (shareDrop fullShare 15) c s f ∗ bigSep (Finset.range 15) fun k => iprop(∃ g, slotPts (F := F) (shareTokN fullShare k) c s g))
      ⊢ (slotPts fullShare c s f : sProp 𝕄) := by
  refine BIBase.Entails.trans ?_ (pointsTo_toks_range fullShare 15).2
  have key : ∀ n, iprop(slotPts (shareDrop fullShare 15) c s f ∗ bigSep (Finset.range n) fun k => iprop(∃ g, slotPts (F := F) (shareTokN fullShare k) c s g))
      ⊢ (iprop(slotPts (shareDrop fullShare 15) c s f ∗ bigSep (Finset.range n) fun k => slotPts (F := F) (shareTokN fullShare k) c s f) : sProp 𝕄) := by
    intro n
    induction n with
    | zero => rw [Finset.range_zero, bigSep_empty, bigSep_empty]
    | succ n ih =>
      rw [BI.bigSep_range_succ, BI.bigSep_range_succ]
      iintro ⟨H, ⟨%g, Hg⟩, Hr⟩
      ihave H1 := ih $$ [H Hr]
      · isplitl [H] <;> iassumption
      icases H1 with ⟨H, Hr⟩
      ihave H2 := (persistent_entails_right (pointsTo_agree (ℓ := (c : Thread nD τ).loc cc0_scratch0) (I := slotSet s) (J := slotSet s))) $$ [H Hg]
      · isplitl [H]; · unfold slotPts; iexact H
        unfold slotPts; iexact Hg
      icases H2 with ⟨%he, H, Hg⟩
      isplitl [H]; · unfold slotPts; iexact H
      isplitl [Hg]
      · unfold slotPts
        rw [pointsTo_congr (f := f) (g := g) fun i hi => (he i (Finset.mem_inter.mpr ⟨hi, hi⟩)).1]
        iexact Hg
      iexact Hr
  exact key 15

end Cert.Exchange

end
-- ==== Proof.Protocol.lean ====
/-
# The exchange protocol

Every semaphore of the exchange is used for one round, by one signal or copy and one wait.

* Barrier of device `c`: `c` signals it and waits for it. Nothing is handed over.
* Ready semaphore `t` of device `c` (for `t` other than `c`): device `t` signals it once, handing over its slot
  `c`, at any contents. Device `c` waits for it before it copies its own slot there.
* Receive semaphore `s` of device `c` (for `s` other than `c`): credited by the copy of device `s`, whose landing
  hands over slot `s` of device `c` with device `s`'s partial sums in it. Device `c` waits for it before it loads.
* Send semaphore `k` of device `c`: credited by the `k`-th copy of device `c` when it has read its source; what
  comes back is the share of the own slot that the copy was lent.

Levels order the waits: staging and send at 0, barrier at 1, ready at 2, receive at 3.
-/
module

public import proofs.«01_k».proof.Proof.Slots

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

/-! ## The cells -/

set_option backward.proofsInPublic true in
def readyS (t : Dev nD) : Sem sig := ⟨t.val, Nat.lt_of_lt_of_le t.isLt (by decide)⟩
abbrev barS : Sem sig := (SemArray.scalar (sig.barrier 0 rfl) : Sems sig S_).sem
set_option backward.proofsInPublic true in
def sendS (k : ℕ) : DmaSem sig := ⟨(4 + k) % 35, Nat.mod_lt _ (by decide)⟩
set_option backward.proofsInPublic true in
def recvS (s : Dev nD) : DmaSem sig := ⟨19 + s.val, Nat.lt_of_lt_of_le (Nat.add_lt_add_left s.isLt 19) (by decide)⟩

abbrev barCell (c : Dev nD) : GSem nD τ sig := ((c : Thread nD τ), .reg barS)
abbrev readyCell (c t : Dev nD) : GSem nD τ sig := ((c : Thread nD τ), .reg (readyS t))
abbrev sendCell (c : Dev nD) (k : ℕ) : GSem nD τ sig := ((c : Thread nD τ), .dma (sendS k))
abbrev recvCell (c s : Dev nD) : GSem nD τ sig := ((c : Thread nD τ), .dma (recvS s))

/-- What a semaphore is for. -/
inductive Kind where
  | bar
  | ready (t : Dev nD)
  | recv (s : Dev nD)
  | send (k : ℕ)
  | other

set_option backward.proofsInPublic true in
def kindOf : SemLoc sig → Kind
  | .reg i => if h : i.val < 16 then .ready ⟨i.val, h⟩ else .bar
  | .dma i => if i.val < 4 then .other else if i.val < 19 then .send (i.val - 4) else .recv ⟨(i.val - 19) % 16, Nat.mod_lt _ (by decide)⟩

theorem kind_bar : kindOf (.reg barS) = .bar := by
  have h : ¬ (barS.val < 16) := by decide
  unfold kindOf; exact dif_neg h
theorem kind_ready (t : Dev nD) : kindOf (.reg (readyS t)) = .ready t := by
  unfold kindOf readyS; exact dif_pos t.isLt
theorem kind_send {k : ℕ} (h : k < 15) : kindOf (.dma (sendS k)) = .send k := by
  unfold kindOf sendS
  have h1 : (4 + k) % 35 = 4 + k := Nat.mod_eq_of_lt (by omega)
  simp only [h1]
  rw [if_neg (by omega), if_pos (by omega)]
  congr 1; omega
theorem kind_recv (s : Dev nD) : kindOf (.dma (recvS s)) = .recv s := by
  unfold kindOf recvS
  have hs : s.val < 16 := s.isLt
  simp only
  rw [if_neg (by omega), if_neg (by omega)]
  congr 1; apply Fin.ext; show (19 + s.val - 19) % 16 = s.val; omega

/-- The units a copy of a slot credits. -/
abbrev N : ℕ := (slotM (0 : Fin 16)).view.dmaCredit
theorem N_pos : 0 < N := View.dmaCredit_pos _ (by decide)

/-! ## The schedule -/

variable (m : (ℓ : Loc nD τ sig) → Buf (Elt F) ℓ)

/-- Whether a cell has a duty: all but the two a device would use towards itself, and those outside the exchange. -/
def live (g : GSem nD τ sig) : Finset Unit := match kindOf g.2 with
  | .bar => {()}
  | .ready t => if t = g.1.1 then ∅ else {()}
  | .recv s => if s = g.1.1 then ∅ else {()}
  | .send _ => {()}
  | .other => ∅
def units (g : GSem nD τ sig) : ℕ := match kindOf g.2 with
  | .bar => 1
  | .ready _ => 1
  | _ => N
/-- What the one round of a cell hands its owner. -/
def handed (g : GSem nD τ sig) : sProp 𝕄 := match kindOf g.2 with
  | .ready t => iprop(∃ f, slotPts (F := F) fullShare t g.1.1 f)
  | .recv s => iprop(∃ f, ⌜Good m s f⌝ ∗ slotPts (F := F) fullShare g.1.1 s f)
  | .send k => iprop(∃ f, slotPts (F := F) (shareTokN fullShare k) g.1.1 g.1.1 f)
  | _ => iprop(emp)

theorem units_pos (g : GSem nD τ sig) : 0 < units g := by
  unfold units; split
  · exact Nat.one_pos
  · exact Nat.one_pos
  · exact N_pos

def sched : Rounds.Schedule (GSem nD τ sig) Unit 𝕄 where
  duties g r := if r = 0 then live g else ∅
  unitless _ := False
  amount g _ _ := units g
  payload g _ _ := handed m g
  amount_pos g _ _ _ := units_pos g

instance handed_storable (g : GSem nD τ sig) : BI.Storable (upEmb : UEmb _ 𝕄) (handed (F := F) m g) := by
  unfold handed; split <;> infer_instance
instance sched_storable (g : GSem nD τ sig) (r : ℕ) (d : Unit) :
    BI.Storable (upEmb : UEmb _ 𝕄) ((sched (F := F) m).payload g r d) := handed_storable m g

theorem duties_zero (g : GSem nD τ sig) : (sched (F := F) m).duties g 0 = live g := by dsimp only [sched]; exact if_pos rfl
theorem duties_later (g : GSem nD τ sig) : ∀ r, 1 ≤ r → (sched (F := F) m).duties g r = ∅ :=
  fun r hr => by dsimp only [sched]; exact if_neg (by omega)
/-- A cell without a duty has none at any round. -/
theorem duties_dead {g : GSem nD τ sig} (h : live g = ∅) : ∀ r, 0 ≤ r → (sched (F := F) m).duties g r = ∅ :=
  fun r _ => by dsimp only [sched]; split <;> [exact h; rfl]
theorem mem_duties {g : GSem nD τ sig} (h : live g = {()}) : () ∈ (sched (F := F) m).duties g 0 := by
  rw [duties_zero, h]; exact Finset.mem_singleton_self _
theorem expect_zero {g : GSem nD τ sig} (h : live g = {()}) : (sched (F := F) m).expect g 0 = units g := by
  unfold Schedule.expect Schedule.amountOf; rw [duties_zero, h, Finset.sum_singleton]; rfl
theorem rest_zero {g : GSem nD τ sig} (h : live g = {()}) :
    bigSep ((sched (F := F) m).duties g 0 \ ∅) (fun d => (sched (F := F) m).payload g 0 d) = handed m g := by
  rw [Finset.sdiff_empty, duties_zero, h, bigSep_singleton]; rfl

theorem live_bar (c : Dev nD) : live (barCell c) = {()} := by unfold live; rw [kind_bar]
theorem live_ready {c t : Dev nD} (h : t ≠ c) : live (readyCell c t) = {()} := by
  unfold live; rw [kind_ready]; exact if_neg h
theorem live_ready_self (c : Dev nD) : live (readyCell c c) = ∅ := by unfold live; rw [kind_ready]; exact if_pos rfl
theorem live_recv {c s : Dev nD} (h : s ≠ c) : live (recvCell c s) = {()} := by
  unfold live; rw [kind_recv]; exact if_neg h
theorem live_recv_self (c : Dev nD) : live (recvCell c c) = ∅ := by unfold live; rw [kind_recv]; exact if_pos rfl
theorem live_send (c : Dev nD) {k : ℕ} (h : k < 15) : live (sendCell c k) = {()} := by unfold live; rw [kind_send h]

theorem units_bar (c : Dev nD) : units (barCell c) = 1 := by unfold units; rw [kind_bar]
theorem units_ready (c t : Dev nD) : units (readyCell c t) = 1 := by unfold units; rw [kind_ready]
theorem units_recv (c s : Dev nD) : units (recvCell c s) = N := by unfold units; rw [kind_recv]
theorem units_send (c : Dev nD) {k : ℕ} (h : k < 15) : units (sendCell c k) = N := by unfold units; rw [kind_send h]

theorem handed_bar (c : Dev nD) : handed (F := F) m (barCell c) = iprop(emp) := by unfold handed; rw [kind_bar]
theorem handed_ready (c t : Dev nD) : handed (F := F) m (readyCell c t) = iprop(∃ f, slotPts (F := F) fullShare t c f) := by
  unfold handed; rw [kind_ready]
theorem handed_recv (c s : Dev nD) : handed (F := F) m (recvCell c s) = iprop(∃ f, ⌜Good m s f⌝ ∗ slotPts (F := F) fullShare c s f) := by
  unfold handed; rw [kind_recv]
theorem handed_send (c : Dev nD) {k : ℕ} (h : k < 15) :
    handed (F := F) m (sendCell c k) = iprop(∃ f, slotPts (F := F) (shareTokN fullShare k) c c f) := by
  unfold handed; rw [kind_send h]

/-! ## What each device owes -/

/-- The ready units device `c` has still to signal from step `n` on; -/
def OR (c : Dev nD) (n : ℕ) : CellTallies nD τ sig Unit := ∑ r ∈ Finset.Ico n 15, tallyAt (readyCell (tgt c r) c) () 1
/-- the receive credits of the copies it has still to issue from step `n` on; -/
def OV (c : Dev nD) (n : ℕ) : CellTallies nD τ sig Unit := ∑ r ∈ Finset.Ico n 15, tallyAt (recvCell (tgt c r) c) () N
/-- all it owes at launch, its own barrier unit last. -/
def O₀ (c : Dev nD) : CellTallies nD τ sig Unit := (OV c 0 + OR c 0) + tallyAt (barCell c) () 1

theorem ico_peel {n : ℕ} (h : n < 15) : Finset.Ico n 15 = insert n (Finset.Ico (n + 1) 15) := by
  ext i; simp only [Finset.mem_insert, Finset.mem_Ico]; omega
theorem OR_peel (c : Dev nD) {n : ℕ} (h : n < 15) : OR c n = OR c (n + 1) + tallyAt (readyCell (tgt c n) c) () 1 := by
  unfold OR; rw [ico_peel h, Finset.sum_insert (by simp), add_comm]
theorem OV_peel (c : Dev nD) {n : ℕ} (h : n < 15) : OV c n = OV c (n + 1) + tallyAt (recvCell (tgt c n) c) () N := by
  unfold OV; rw [ico_peel h, Finset.sum_insert (by simp), add_comm]
theorem OR_end (c : Dev nD) : OR c 15 = 0 := by unfold OR; rw [Finset.Ico_self, Finset.sum_empty]
theorem OV_end (c : Dev nD) : OV c 15 = 0 := by unfold OV; rw [Finset.Ico_self, Finset.sum_empty]

/-- A sum of one-cell tallies at a cell is the sum of what each puts there. -/
theorem sum_tally_apply {I : Type} (S : Finset I) (g : I → GSem nD τ sig) (k : ℕ) (g' : GSem nD τ sig) (u : Unit) :
    (∑ r ∈ S, (tallyAt (g r) () k : CellTallies nD τ sig Unit)) g' u = ∑ r ∈ S, if g' = g r then k else 0 := by
  classical
  induction S using Finset.induction_on with
  | empty => rw [Finset.sum_empty, Finset.sum_empty]; rfl
  | insert a S ha ih =>
    rw [Finset.sum_insert ha, Finset.sum_insert ha, ← ih, Pi.add_apply, Finsupp.add_apply, tallyAt_apply]
    congr 1
    exact if_congr ⟨fun h => h.1, fun h => ⟨h, rfl⟩⟩ rfl rfl

theorem sum_tally_pos {I : Type} {S : Finset I} {g : I → GSem nD τ sig} {k : ℕ} {g' : GSem nD τ sig} {u : Unit}
    (h : 0 < (∑ r ∈ S, (tallyAt (g r) () k : CellTallies nD τ sig Unit)) g' u) : ∃ r ∈ S, g' = g r := by
  rw [sum_tally_apply] at h
  by_contra hn
  rw [Finset.sum_eq_zero fun r hr => if_neg fun he => hn ⟨r, hr, he⟩] at h
  exact Nat.lt_irrefl 0 h

/-! ## Levels -/

def L (g : GSem nD τ sig) : Finset Unit := if g.1.2 = .tc then {()} else ∅
def lv (g : GSem nD τ sig) (_ : Unit) : ℕ := match kindOf g.2 with
  | .bar => 1
  | .ready _ => 2
  | .recv _ => 3
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by unfold lv; rw [kind_bar]
theorem lv_ready (c t : Dev nD) (u : Unit) : lv (readyCell c t) u = 2 := by unfold lv; rw [kind_ready]
theorem lv_recv (c s : Dev nD) (u : Unit) : lv (recvCell c s) u = 3 := by unfold lv; rw [kind_recv]

/-- A device may wait on a semaphore while all it owes is on the devices' main cores, at higher levels. -/
theorem mayWait_of (c : Dev nD) (sm : SemLoc sig) {O : CellTallies nD τ sig Unit}
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

theorem OV_pos {c : Dev nD} {n : ℕ} {g : GSem nD τ sig} {u : Unit} (h : 0 < OV c n g u) : g.1.2 = .tc ∧ lv g u = 3 := by
  obtain ⟨r, _, rfl⟩ := sum_tally_pos h
  exact ⟨rfl, lv_recv _ _ _⟩
theorem OR_pos {c : Dev nD} {n : ℕ} {g : GSem nD τ sig} {u : Unit} (h : 0 < OR c n g u) : g.1.2 = .tc ∧ lv g u = 2 := by
  obtain ⟨r, _, rfl⟩ := sum_tally_pos h
  exact ⟨rfl, lv_ready _ _ _⟩
theorem OVR_pos {c : Dev nD} {n n' : ℕ} {g : GSem nD τ sig} {u : Unit} (h : 0 < (OV c n + OR c n') g u) : g.1.2 = .tc ∧ 2 ≤ lv g u := by
  rw [Pi.add_apply, Finsupp.add_apply] at h
  rcases Nat.eq_zero_or_pos (OV c n g u) with h0 | h0
  · have := OR_pos (c := c) (n := n') (g := g) (u := u) (by omega); exact ⟨this.1, by omega⟩
  · have := OV_pos h0; exact ⟨this.1, by omega⟩
theorem O₀_pos {c : Dev nD} {g : GSem nD τ sig} {u : Unit} (h : 0 < O₀ c g u) : g.1.2 = .tc ∧ 1 ≤ lv g u := by
  unfold O₀ at h
  rw [Pi.add_apply, Finsupp.add_apply] at h
  rcases Nat.eq_zero_or_pos ((OV c 0 + OR c 0) g u) with h0 | h0
  · rw [h0, tallyAt_apply, Nat.zero_add] at h
    by_cases he : g = barCell c ∧ u = ()
    · rw [he.1, lv_bar]; exact ⟨rfl, le_rfl⟩
    · rw [if_neg he] at h; exact absurd h (Nat.lt_irrefl 0)
  · have := OVR_pos h0; exact ⟨this.1, by omega⟩

theorem mayWait_bar (c : Dev nD) : (levAts L lv : sProp 𝕄) ⊢ MayWait (c : Thread nD τ) (.reg barS) () (OV c 0 + OR c 0) :=
  mayWait_of c _ fun g u hg => ⟨(OVR_pos hg).1, by rw [lv_bar]; exact Nat.lt_of_lt_of_le (by decide) (OVR_pos hg).2⟩
theorem mayWait_ready (c t : Dev nD) (n : ℕ) : (levAts L lv : sProp 𝕄) ⊢ MayWait (c : Thread nD τ) (.reg (readyS t)) () (OV c n) :=
  mayWait_of c _ fun g u hg => ⟨(OV_pos hg).1, by rw [lv_ready, (OV_pos hg).2]; decide⟩
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine mayWait_of c _ fun g u hg => ⟨(O₀_pos hg).1, ?_⟩
    have hk : kindOf (.dma q) = .other := by unfold kindOf; exact if_pos hq
    have h0 : lv ((c : Thread nD τ), .dma q) () = 0 := by unfold lv; rw [hk]
    rw [h0]; exact (O₀_pos hg).2
  · rw [MayWait_zero]; iintro -; iempintro

end Cert.Exchange

end
-- ==== Proof.Steps.lean ====
/-
# The steps of the exchange

One rule per kind of step of a device's program, at any step number. What a device holds between two steps is a
predicate over how many steps of each kind it has done:

* `sigSt c n`: `n` of the fifteen ready signals given;
* `exSt c fs n n'`: `n` ready semaphores waited for and `n'` copies issued, the own slot holding `fs`;
* `rcSt c n n'`: `n` receive semaphores waited for and `n'` landed slots loaded;
* `sdSt c n`: `n` send semaphores waited for.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-! ## The cells' records -/

/-- A device's own semaphores in the exchange: ready, receive, send; -/
abbrev OIx : Type := Dev nD ⊕ Dev nD ⊕ Fin 15
def osem : OIx → SemLoc sig
  | .inl t => .reg (readyS t)
  | .inr (.inl s) => .dma (recvS s)
  | .inr (.inr k) => .dma (sendS k.val)
/-- and with its barrier. -/
abbrev CIx : Type := OIx ⊕ Unit
def csem : CIx → SemLoc sig
  | .inl i => osem i
  | .inr _ => .reg barS
def kcell (ci : Dev nD × CIx) : GSem nD τ sig := ((ci.1 : Thread nD τ), csem ci.2)

abbrev Names : Type := Dev nD × CIx → ℕ

/-- Every cell's invariant, and that it is at its first round. -/
def records (K : Names) : sProp 𝕄 :=
  iprop((bigSep Finset.univ fun ci : Dev nD × CIx => cellInv ER (sched m) (K ci) (kcell ci))
    ∗ bigSep Finset.univ fun ci : Dev nD × CIx => reached ER (kcell ci) 0)

instance records_persistent (K : Names) : BI.Persistent (records m K) := by unfold records; infer_instance

theorem inv_at (K : Names) (ci : Dev nD × CIx) :
    (bigSep Finset.univ fun ci : Dev nD × CIx => (cellInv ER (sched m) (K ci) (kcell ci) : sProp 𝕄)) ⊢ cellInv ER (sched m) (K ci) (kcell ci) :=
  bigSep_elim (Finset.mem_univ ci)
theorem reached_at (ci : Dev nD × CIx) :
    (bigSep Finset.univ fun ci : Dev nD × CIx => (reached ER (kcell ci) 0 : sProp 𝕄)) ⊢ reached ER (kcell ci) 0 :=
  bigSep_elim (Finset.mem_univ ci)
theorem rec_at (K : Names) (ci : Dev nD × CIx) :
    records m K ⊢ iprop(cellInv ER (sched m) (K ci) (kcell ci) ∗ reached ER (kcell ci) 0) := by
  unfold records
  iintro ⟨H1, H2⟩
  isplitl [H1]
  · iapply (inv_at m K ci); iexact H1
  · iapply (reached_at (F := F) ci); iexact H2

/-- A slot after the landing of a copy holds what the source held. -/
theorem landed_pts (c t : Dev nD) (fd fs : Buf (Elt F) ((t : Thread nD τ).loc cc0_scratch0)) :
    ((slotM c).view.loc (t : Thread nD τ) ↦[slotSet c]{fullShare} ((slotM c).view.write (Elt F) fd ((slotM c).view.read (Elt F) fs) Finset.univ) : sProp 𝕄)
      = ((t : Thread nD τ).loc cc0_scratch0 ↦[slotSet c]{fullShare} fs) :=
  pointsTo_congr (landed_eq c fd fs)

theorem payload_eq (g : GSem nD τ sig) : (sched (F := F) m).payload g 0 () = handed m g := rfl
theorem credit_eq (s : Dev nD) : (slotM s).view.dmaCredit = N := rfl

abbrev kBar (K : Names) (c : Dev nD) : ℕ := K (c, .inr ())
abbrev kReady (K : Names) (c t : Dev nD) : ℕ := K (c, .inl (.inl t))
abbrev kRecv (K : Names) (c s : Dev nD) : ℕ := K (c, .inl (.inr (.inl s)))
abbrev kSend (K : Names) (c : Dev nD) (k : Fin 15) : ℕ := K (c, .inl (.inr (.inr k)))

theorem rec_bar (K : Names) (c : Dev nD) :
    records m K ⊢ iprop(cellInv ER (sched m) (kBar K c) (barCell c) ∗ reached ER (barCell c) 0) := rec_at m K (c, .inr ())
theorem rec_ready (K : Names) (c t : Dev nD) :
    records m K ⊢ iprop(cellInv ER (sched m) (kReady K c t) (readyCell c t) ∗ reached ER (readyCell c t) 0) := rec_at m K (c, .inl (.inl t))
theorem rec_recv (K : Names) (c s : Dev nD) :
    records m K ⊢ iprop(cellInv ER (sched m) (kRecv K c s) (recvCell c s) ∗ reached ER (recvCell c s) 0) := rec_at m K (c, .inl (.inr (.inl s)))
theorem rec_send (K : Names) (c : Dev nD) {k : ℕ} (hk : k < 15) :
    records m K ⊢ iprop(cellInv ER (sched m) (kSend K c ⟨k, hk⟩) (sendCell c k) ∗ reached ER (sendCell c k) 0) :=
  rec_at m K (c, .inl (.inr (.inr ⟨k, hk⟩)))

/-! ## The states between steps -/

abbrev 𝒱₀ : Variants := Variants.none

/-- The weakest precondition of a device's program. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever waits it has made. -/
def Owe (c : Dev nD) (O : CellTallies nD τ sig Unit) : sProp 𝕄 := iprop(∃ W, owes (c : Thread nD τ) O W)

def sigSt (c : Dev nD) (n : ℕ) : sProp 𝕄 :=
  iprop(Owe c (OV c 0 + OR c n)
    ∗ bigSep (Finset.Ico n 15) fun r => iprop(dutyTok ER (readyCell (tgt c r) c) 0 () ∗ ∃ f, slotPts (F := F) fullShare c (tgt c r) f))

def exSt (c : Dev nD) (fs : Buf (Elt F) ((c : Thread nD τ).loc cc0_scratch0)) (n n' : ℕ) : sProp 𝕄 :=
  iprop(Owe c (OV c n')
    ∗ (bigSep (Finset.Ico n 15) fun r => iprop(cred (tallyAt (readyCell c (tgt c r)) () 1) ∗ atPos ER (readyCell c (tgt c r)) 0 ∅ 0))
    ∗ (bigSep (Finset.range n) fun r => atPos ER (readyCell c (tgt c r)) 1 ∅ 0)
    ∗ (bigSep (Finset.Ico n' n) fun r => iprop(∃ f, slotPts (F := F) fullShare (tgt c r) c f))
    ∗ (bigSep (Finset.Ico n' 15) fun r => iprop(slotPts (shareTokN fullShare r) c c fs ∗ dutyTok ER (sendCell c r) 0 () ∗ dutyTok ER (recvCell (tgt c r) c) 0 ()))
    ∗ (bigSep (Finset.range n') fun r => cred (tallyAt (sendCell c r) () N)))

def rcSt (c : Dev nD) (n n' : ℕ) : sProp 𝕄 :=
  iprop(Owe c 0
    ∗ (bigSep (Finset.Ico n 15) fun r => iprop(cred (tallyAt (recvCell c (src c r)) () N) ∗ atPos ER (recvCell c (src c r)) 0 ∅ 0))
    ∗ (bigSep (Finset.range n) fun r => atPos ER (recvCell c (src c r)) 1 ∅ 0)
    ∗ (bigSep (Finset.Ico n' n) fun r => iprop(∃ f, ⌜Good m (src c r) f⌝ ∗ slotPts (F := F) fullShare c (src c r) f))
    ∗ (bigSep (Finset.range n') fun r => iprop(∃ f, slotPts (F := F) fullShare c (src c r) f)))

def sdSt (c : Dev nD) (n : ℕ) : sProp 𝕄 :=
  iprop(Owe c 0
    ∗ (bigSep (Finset.Ico n 15) fun r => iprop(cred (tallyAt (sendCell c r) () N) ∗ atPos ER (sendCell c r) 0 ∅ 0))
    ∗ (bigSep (Finset.range n) fun r => iprop(atPos ER (sendCell c r) 1 ∅ 0 ∗ ∃ f, slotPts (F := F) (shareTokN fullShare r) c c f)))

/-! ## The steps -/

/-- The signal of the own barrier. -/
theorem step_bar_signal (K : Names) (c : Dev nD) {d : Dev nD} (hd : d = c) {sm : Sem sig} (hs : sm = barS) {z : ℤ} (hz : z = ((1 : ℕ) : ℤ))
    {α : Type} {Q : α → sProp 𝕄} {k : PUnit → Prog (TpuEff nD τ sig (Elt F) Λ₀ .tc) α} :
    iprop(records m K ∗ Owe c (O₀ c) ∗ dutyTok ER (barCell c) 0 ())
      ⊢ iprop((Owe c (OV c 0 + OR c 0) -∗ Run c (k ⟨⟩) Q) -∗ Run c (.op (.semSignal (Dev.tc d) sm z) k) Q) := by
  subst hd hs hz
  unfold Owe
  iintro ⟨#HR, ⟨%W, HO⟩, Ht⟩ Hk
  ihave #Hc := (rec_bar m K d) $$ HR
  icases Hc with ⟨#HI, #Hr⟩
  iapply (Rounds.wp_signal 𝒱₀ ER (sched m) (d : Thread nD τ) none (dst := (d : Thread nD τ)) (κ := kBar K d)
      (d := ()) (mem_duties m (live_bar d)) (units_bar d) () (OV d 0 + OR d 0) rfl) $$ [HO Ht]
  · isplitr; · iexact HI
    isplitl [HO]; · iexact HO
    isplitl [Ht]; · iexact Ht
    isplitr; · rw [payload_eq, handed_bar]; iempintro
    iexact Hr
  iintro HO
  iapply Hk
  iexists W; iexact HO

/-- The wait for the own barrier. -/
theorem step_bar_wait (K : Names) (c : Dev nD) {sm : Sem sig} (hs : sm = barS) {z : ℤ} (hz : z = ((1 : ℕ) : ℤ))
    {α : Type} {Q : α → sProp 𝕄} {k : PUnit → Prog (TpuEff nD τ sig (Elt F) Λ₀ .tc) α} :
    iprop(records m K ∗ levAts L lv ∗ Owe c (OV c 0 + OR c 0) ∗ cred (tallyAt (barCell c) () 1) ∗ atPos ER (barCell c) 0 ∅ 0)
      ⊢ iprop(((Owe c (OV c 0 + OR c 0) ∗ atPos ER (barCell c) 1 ∅ 0) -∗ Run c (k ⟨⟩) Q) -∗ Run c (.op (.semWait sm z) k) Q) := by
  subst hs hz
  unfold Owe
  iintro ⟨#HR, #Hlev, ⟨%W, HO⟩, Hcr, Hat⟩ Hk
  ihave #Hc := (rec_bar m K c) $$ HR
  icases Hc with ⟨#HI, #Hr⟩
  iapply (Rounds.wp_wait_rest_token 𝒱₀ ER (sched m) (c : Thread nD τ) none (κ := kBar K c)
      (wpE_semWait_eq 𝒱₀ (c : Thread nD τ) none Set.univ) (Set.mem_univ _) () (O := OV c 0 + OR c 0) (W := W) (R := 0) (m := 0) (T := ∅)
      (by rw [Nat.zero_add, expect_zero m (live_bar c), units_bar])) $$ [HO Hcr Hat]
  · isplitr; · iexact HI
    isplitl [Hcr]; · iexact Hcr
    isplitl [HO]; · iexact HO
    isplitr; · iapply (mayWait_bar c); iexact Hlev
    iexact Hat
  iintro ⟨HO, Hat, -, -⟩
  iapply Hk
  isplitl [HO]; · iexists _; iexact HO
  iexact Hat

/-- The ready signal of step `n`: the slot the target will write is handed over. -/
theorem step_sig (K : Names) (c : Dev nD) {n : ℕ} (hn : n < 15) {d : Dev nD} (hd : d = tgt c n) {sm : Sem sig} (hs : sm = readyS c)
    {z : ℤ} (hz : z = ((1 : ℕ) : ℤ)) {α : Type} {Q : α → sProp 𝕄} {k : PUnit → Prog (TpuEff nD τ sig (Elt F) Λ₀ .tc) α} :
    iprop(records m K ∗ sigSt c n)
      ⊢ iprop((sigSt c (n + 1) -∗ Run c (k ⟨⟩) Q) -∗ Run c (.op (.semSignal (Dev.tc d) sm z) k) Q) := by
  subst hd hs hz
  unfold sigSt Owe
  rw [bigSep_Ico_succ_bot hn]
  iintro ⟨#HR, ⟨%W, HO⟩, ⟨Ht, Hs⟩, Hrest⟩ Hk
  ihave #Hc := (rec_ready m K (tgt c n) c) $$ HR
  icases Hc with ⟨#HI, #Hr⟩
  iapply (Rounds.wp_signal 𝒱₀ ER (sched m) (c : Thread nD τ) none (dst := (tgt c n : Thread nD τ)) (κ := kReady K (tgt c n) c)
      (d := ()) (mem_duties m (live_ready (tgt_ne c hn).symm)) (units_ready _ _) () (O₀ := OV c 0 + OR c n) (OV c 0 + OR c (n + 1)) (by rw [OR_peel c hn, add_assoc])) $$ [HO Ht Hs]
  · isplitr; · iexact HI
    isplitl [HO]; · iexact HO
    isplitl [Ht]; · iexact Ht
    isplitl [Hs]; · rw [payload_eq, handed_ready]; iexact Hs
    iexact Hr
  iintro HO
  iapply Hk
  isplitl [HO]; · iexists W; iexact HO
  iexact Hrest

/-- The wait for the ready signal of step `n`'s target: its slot for this device comes with it. -/
theorem step_ready (K : Names) (c : Dev nD) (fs : Buf (Elt F) ((c : Thread nD τ).loc cc0_scratch0)) {n : ℕ} (hn : n < 15) {sm : Sem sig} (hs : sm = readyS (tgt c n))
    {z : ℤ} (hz : z = ((1 : ℕ) : ℤ)) {α : Type} {Q : α → sProp 𝕄} {k : PUnit → Prog (TpuEff nD τ sig (Elt F) Λ₀ .tc) α} :
    iprop(records m K ∗ levAts L lv ∗ exSt c fs n n)
      ⊢ iprop((exSt c fs (n + 1) n -∗ Run c (k ⟨⟩) Q) -∗ Run c (.op (.semWait sm z) k) Q) := by
  subst hs hz
  unfold exSt Owe
  rw [bigSep_Ico_succ_bot hn, bigSep_range_succ, bigSep_Ico_one]
  iintro ⟨#HR, #Hlev, ⟨%W, HO⟩, ⟨⟨Hcr, Hat⟩, Htodo⟩, Hdone, -, Hsend, Hsent⟩ Hk
  ihave #Hc := (rec_ready m K c (tgt c n)) $$ HR
  icases Hc with ⟨#HI, #Hr⟩
  iapply (Rounds.wp_wait_rest_token 𝒱₀ ER (sched m) (c : Thread nD τ) none (κ := kReady K c (tgt c n))
      (wpE_semWait_eq 𝒱₀ (c : Thread nD τ) none Set.univ) (Set.mem_univ _) () (O := OV c n) (W := W) (R := 0) (m := 0) (T := ∅)
      (by rw [Nat.zero_add, expect_zero m (live_ready (tgt_ne c hn)), units_ready])) $$ [HO Hcr Hat]
  · isplitr; · iexact HI
    isplitl [Hcr]; · iexact Hcr
    isplitl [HO]; · iexact HO
    isplitr; · iapply (mayWait_ready c (tgt c n) n); iexact Hlev
    iexact Hat
  iintro ⟨HO, Hat, -, Hpay⟩
  ihave Hp := (Entails.of_eq ((rest_zero m (live_ready (tgt_ne c hn))).trans (handed_ready m c (tgt c n)))) $$ Hpay
  iapply Hk
  isplitl [HO]; · iexists _; iexact HO
  isplitl [Htodo]; · iexact Htodo
  isplitl [Hat Hdone]
  · isplitl [Hat]; · iexact Hat
    iexact Hdone
  isplitl [Hp]; · iexact Hp
  isplitl [Hsend]; · iexact Hsend
  iexact Hsent

/-- The copy of step `n`: a share of the own slot is lent, the target's slot is filled. -/
theorem step_send (K : Names) (c : Dev nD) (fs : Buf (Elt F) ((c : Thread nD τ).loc cc0_scratch0)) (hg : Good m c fs) {n : ℕ} (hn : n < 15)
    {d : Dev nD} (hd : d = tgt c n) {sS sR : DmaSem sig} (hsS : sS = sendS n) (hsR : sR = recvS c)
    {hsc : (slotM c : Memref sig (Dev.tc d : Thread nD τ).2.kind .vmem S9x8x64 .bf16).view.ref.isScScratch = false}
    {hsrc : (slotM c).view.WordExact} {hdst : (slotM c).view.WordExact}
    {hsem : DmaTarget.Typed .vmem (.dma sR) (.remote (Dev.tc d : Thread nD τ) (slotM c) (.dma sS) hsc)}
    {α : Type} {Q : α → sProp 𝕄} {k : PUnit → Prog (TpuEff nD τ sig (Elt F) Λ₀ .tc) α} :
    iprop(records m K ∗ exSt c fs (n + 1) n)
      ⊢ iprop((exSt c fs (n + 1) (n + 1) -∗ Run c (k ⟨⟩) Q)
          -∗ Run c (.op (.enqueueDma (slotM c) (.remote (Dev.tc d : Thread nD τ) (slotM c) (.dma sS) hsc) (.dma sR) hsrc hdst hsem) k) Q) := by
  subst hd hsS hsR
  unfold exSt Owe
  rw [bigSep_Ico_one, bigSep_Ico_succ_bot hn (A := fun r => iprop(slotPts (shareTokN fullShare r) c c fs ∗ dutyTok ER (sendCell c r) 0 () ∗ dutyTok ER (recvCell (tgt c r) c) 0 ())),
    bigSep_range_succ n (fun r => cred (tallyAt (sendCell c r) () N)), Finset.Ico_self, bigSep_empty]
  iintro ⟨#HR, ⟨%W, HO⟩, Htodo, Hdone, ⟨%fd, Hdst⟩, ⟨⟨Hsrc, HtS, HtV⟩, Hsend⟩, Hsent⟩ Hk
  ihave #Hc := (rec_send m K c hn) $$ HR
  icases Hc with ⟨#HI1, #Hr1⟩
  ihave #Hc2 := (rec_recv m K (tgt c n) c) $$ HR
  icases Hc2 with ⟨#HI2, #Hr2⟩
  iapply (Rounds.wp_send_pointsTo 𝒱₀ ER (sched m) (c : Thread nD τ) none (κ₁ := kSend K c ⟨n, hn⟩) (κ₂ := kRecv K (tgt c n) c)
    (r₁ := 0) (r₂ := 0) (d₁ := ()) (d₂ := ()) (q := shareTokN fullShare n) (fs := fs) (fd := fd)
    (mem_duties m (live_send c hn)) (mem_duties m (live_recv (tgt_ne c hn).symm))
    () () N (credit_eq c) (units_send c hn) (units_recv _ _) (OV c (n + 1)) (OV_peel c hn) (W := W)
    (by
      rw [slot_set]
      refine BIBase.Entails.trans ?_ (Entails.of_eq (handed_send m c hn).symm)
      iintro H; iexists fs; unfold slotPts; iexact H)
    (by
      rw [slot_set]
      refine BIBase.Entails.trans ?_ (Entails.of_eq (handed_recv m (tgt c n) c).symm)
      iintro H
      iexists fs
      isplitr; · ipureintro; exact hg
      unfold slotPts
      iapply (Entails.of_eq (landed_pts c (tgt c n) fd fs))
      iexact H)) $$ [HO Hsrc Hdst HtS HtV]
  · isplitr; · iexact HI1
    isplitr; · iexact HI2
    isplitl [Hsrc]; · rw [slot_set]; unfold slotPts; iexact Hsrc
    isplitl [Hdst]; · rw [slot_set]; unfold slotPts; iexact Hdst
    isplitl [HO]; · iexact HO
    isplitl [HtS]; · iexact HtS
    isplitr; · iexact Hr1
    isplitl [HtV]; · iexact HtV
    iexact Hr2
  iintro ⟨Hcr, HO⟩
  iapply Hk
  isplitl [HO]; · iexists _; iexact HO
  isplitl [Htodo]; · iexact Htodo
  isplitl [Hdone]; · iexact Hdone
  isplitr; · iempintro
  isplitl [Hsend]; · iexact Hsend
  isplitl [Hcr]; · iexact Hcr
  iexact Hsent

/-- The wait for the receive semaphore of step `n`: the slot comes back filled. -/
theorem step_recv (K : Names) (c : Dev nD) {n n' : ℕ} (hn : n < 15) (hn' : n' ≤ n) {sm : DmaSem sig} (hs : sm = recvS (src c n))
    {a b : Memref sig .tc .vmem S9x8x64 .bf16} {ha : a.view.WordExact} {hb : b.view.WordExact} (hN : b.view.dmaCredit = N)
    {α : Type} {Q : α → sProp 𝕄} {k : PUnit → Prog (TpuEff nD τ sig (Elt F) Λ₀ .tc) α} :
    iprop(records m K ∗ rcSt m c n n')
      ⊢ iprop((rcSt m c (n + 1) n' -∗ Run c (k ⟨⟩) Q) -∗ Run c (.op (.waitDma2 sm a b ha hb) k) Q) := by
  subst hs
  unfold rcSt Owe
  rw [bigSep_Ico_succ_bot hn, bigSep_range_succ, bigSep_Ico_succ_top hn']
  iintro ⟨#HR, ⟨%W, HO⟩, ⟨⟨Hcr, Hat⟩, Htodo⟩, Hdone, Hslots, Hloaded⟩ Hk
  ihave #Hc := (rec_recv m K c (src c n)) $$ HR
  icases Hc with ⟨#HI, #Hr⟩
  iapply (Rounds.wp_wait_rest_token 𝒱₀ ER (sched m) (c : Thread nD τ) none (κ := kRecv K c (src c n)) (sm := .dma (recvS (src c n))) (k' := N)
      (fun K => by rw [← hN]; exact wpE_waitDma2_eq 𝒱₀ (c : Thread nD τ) none Set.univ K) (Set.mem_univ _) () (O := 0) (W := W) (R := 0) (m := 0) (T := ∅)
      (by rw [Nat.zero_add, expect_zero m (live_recv (src_ne c hn)), units_recv])) $$ [HO Hcr Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq ((rest_zero m (live_recv (src_ne c hn))).trans (handed_recv m c (src c n)))) $$ Hpay
  iapply Hk
  isplitl [HO]; · iexists _; iexact HO
  isplitl [Htodo]; · iexact Htodo
  isplitl [Hat Hdone]
  · isplitl [Hat]; · iexact Hat
    iexact Hdone
  isplitl [Hp Hslots]
  · isplitl [Hp]; · iexact Hp
    iexact Hslots
  iexact Hloaded

/-- The load of step `n'`'s slot: what is loaded is the sender's partial sums on every lane written. -/
theorem step_load (c : Dev nD) {n n' : ℕ} (hn : n' < n) {off : Fin 4 → Nat} {hin : ∀ a, off a + S1x9x8x64.size a ≤ S16x9x8x64.size a}
    (ho : off = k0_off2 (src c n'))
    {hl : cM.view.LoadsAt (Rect.unit (s := S16x9x8x64) off S1x9x8x64.size hin).toLoadRect}
    {α : Type} {Q : α → sProp 𝕄} {k : Vec F S1x9x8x64 .bf16 → Prog (TpuEff nD τ sig (Elt F) Λ₀ .tc) α} :
    rcSt m c n n'
      ⊢ iprop((∀ x : Vec F S1x9x8x64 .bf16, ⌜∀ j, Used j → x j = slotVal m (src c n') j⌝ -∗ rcSt m c n (n' + 1) -∗ Run c (k x) Q)
          -∗ Run c (.op (.load cM (Rect.unit (s := S16x9x8x64) off S1x9x8x64.size hin).toLoadRect hl) k) Q) := by
  subst ho
  unfold rcSt
  rw [bigSep_Ico_succ_bot hn, bigSep_range_succ n' (fun r => iprop(∃ f, slotPts (F := F) fullShare c (src c r) f))]
  iintro ⟨HO, Htodo, Hdone, ⟨⟨%f, %hf, Hs⟩, Hslots⟩, Hloaded⟩ Hk
  iapply (wp_load_rect 𝒱₀ (c : Thread nD τ) none Set.univ (m := cM) (r := slotR (src c n')) (S := slotSet (src c n')) (q := fullShare) (f := f)
    (by rw [slot_set'])) $$ [Hs]
  · unfold slotPts; iexact Hs
  iintro Hs
  ispecialize Hk $$ %((cM.access (slotR (src c n'))).read (Elt F) f)
  ispecialize Hk $$ %hf
  iapply Hk
  isplitl [HO]; · iexact HO
  isplitl [Htodo]; · iexact Htodo
  isplitl [Hdone]; · iexact Hdone
  isplitl [Hslots]; · iexact Hslots
  isplitl [Hs]
  · iexists f; unfold slotPts; iexact Hs
  iexact Hloaded

/-- The wait for the send semaphore of step `n`: the share of the own slot comes back. -/
theorem step_sent (K : Names) (c : Dev nD) {n : ℕ} (hn : n < 15) {sm : DmaSem sig} (hs : sm = sendS n)
    {a b : Memref sig .tc .vmem S9x8x64 .bf16} {ha : a.view.WordExact} {hb : b.view.WordExact} (hN : b.view.dmaCredit = N)
    {α : Type} {Q : α → sProp 𝕄} {k : PUnit → Prog (TpuEff nD τ sig (Elt F) Λ₀ .tc) α} :
    iprop(records m K ∗ sdSt c n)
      ⊢ iprop((sdSt c (n + 1) -∗ Run c (k ⟨⟩) Q) -∗ Run c (.op (.waitDma2 sm a b ha hb) k) Q) := by
  subst hs
  unfold sdSt Owe
  rw [bigSep_Ico_succ_bot hn, bigSep_range_succ]
  iintro ⟨#HR, ⟨%W, HO⟩, ⟨⟨Hcr, Hat⟩, Htodo⟩, Hdone⟩ Hk
  ihave #Hc := (rec_send m K c hn) $$ HR
  icases Hc with ⟨#HI, #Hr⟩
  iapply (Rounds.wp_wait_rest_token 𝒱₀ ER (sched m) (c : Thread nD τ) none (κ := kSend K c ⟨n, hn⟩) (sm := .dma (sendS n)) (k' := N)
      (fun K => by rw [← hN]; exact wpE_waitDma2_eq 𝒱₀ (c : Thread nD τ) none Set.univ K) (Set.mem_univ _) () (O := 0) (W := W) (R := 0) (m := 0) (T := ∅)
      (by rw [Nat.zero_add, expect_zero m (live_send c hn), units_send c hn])) $$ [HO Hcr Hat]
  · isplitr; · iexact HI
    isplitl [Hcr]; · iexact Hcr
    isplitl [HO]; · iexact HO
    isplitr; · rw [MayWait_zero]; iempintro
    iexact Hat
  iintro ⟨HO, Hat, -, Hpay⟩
  ihave Hp := (Entails.of_eq ((rest_zero m (live_send c hn)).trans (handed_send m c hn))) $$ Hpay
  iapply Hk
  isplitl [HO]; · iexists _; iexact HO
  isplitl [Htodo]; · iexact Htodo
  isplitl [Hat Hp]
  · isplitl [Hat]; · iexact Hat
    iexact Hp
  iexact Hdone

end Cert.Exchange

end
-- ==== Proof.Sems.lean ====
/-
# The names the program uses, in closed form

Which semaphore each slice of the semaphore arrays is, which device each computed device index is, and which slot
each computed offset starts.
-/
module

public import proofs.«01_k».proof.Proof.Steps

@[expose] public section

noncomputable section

namespace Cert.Exchange

open Cert.KernelIdeal Cert.KernelIdeal.Gen
open Idealize.ShloMosaic
open Idealize.ShloMosaic.TcCoe

/-- The element of a semaphore array of sixteen at a one-element slice. -/
abbrev at16 {α : Type} (A : SemArray α S16) (off : Fin 1 → Nat) (h : ∀ a, off a + S1.size a ≤ S16.size a) : α :=
  ((A.slice (Rect.unit (s := S16) off S1.size h)).squeeze S_ squeezes_S1_S_).sem
/-- The element of a semaphore array of fifteen at a one-element slice. -/
abbrev at15 {α : Type} (A : SemArray α S15) (off : Fin 1 → Nat) (h : ∀ a, off a + S1.size a ≤ S15.size a) : α :=
  ((A.slice (Rect.unit (s := S15) off S1.size h)).squeeze S_ squeezes_S1_S_).sem

theorem ready_of {off : Fin 1 → Nat} {h : ∀ a, off a + S1.size a ≤ S16.size a} {t : Dev nD} (ho : off = k0_off1 t) :
    at16 cc0_scratch3 off h = readyS t := by
  subst ho
  have key : ∀ t : Dev nD, at16 cc0_scratch3 (k0_off1 t) (k0_off1_inb t) = readyS t := by decide
  exact key t

theorem recv_of {off : Fin 1 → Nat} {h : ∀ a, off a + S1.size a ≤ S16.size a} {t : Dev nD} (ho : off = k0_off1 t) :
    at16 cc0_scratch2 off h = recvS t := by
  subst ho
  have key : ∀ t : Dev nD, at16 cc0_scratch2 (k0_off1 t) (k0_off1_inb t) = recvS t := by decide
  exact key t

theorem fifteen (k : Fin 15) : ∀ a, (![k.val] : Fin 1 → Nat) a + S1.size a ≤ S15.size a := by
  revert k; decide
theorem send_of (k : Fin 15) {h : ∀ a, (![k.val] : Fin 1 → Nat) a + S1.size a ≤ S15.size a} :
    at15 cc0_scratch1 ![k.val] h = sendS k.val := by
  have key : ∀ k : Fin 15, at15 cc0_scratch1 ![k.val] (fifteen k) = sendS k.val := by decide
  exact key k

theorem tgt_of {d : ℕ} {hd : d < nD} {c : Dev nD} {r : ℕ} (h : d = (c.val + (r + 1)) % 16) : (⟨d, hd⟩ : Dev nD) = tgt c r :=
  Fin.ext (h.trans (by rw [← Nat.add_assoc]; rfl))

theorem off5_tgt (c : Dev nD) (r : Fin 15) : k0_off5 c (BitVec.ofNat 32 (1 + r.val)) = k0_off1 (tgt c r.val) := by
  rw [k0_off5_eq, k0_off1_eq]; rfl
theorem src_val (c : Dev nD) {r : ℕ} (h : r < 15) : (src c r).val = ((c.val + 15) - r) % 16 := rfl
theorem off7_src (c : Dev nD) (r : Fin 15) : k0_off7 c (BitVec.ofNat 32 (1 + r.val)) = k0_off1 (src c r.val) := by
  rw [k0_off7_eq, k0_off1_eq]; rfl
theorem off9_src (c : Dev nD) (r : Fin 15) : k0_off9 c (BitVec.ofNat 32 (1 + r.val)) = k0_off2 (src c r.val) := by
  rw [k0_off9_eq, k0_off2_eq]; rfl
theorem off6_own (c : Dev nD) : k0_off6 c = k0_off2 c := by
  rw [k0_off6_eq, k0_off2_eq]

open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A program that has ended satisfies what holds of its value. -/
theorem run_ret (c : Dev nD) {α : Type} {a : α} {Q : α → sProp 𝕄} : Q a ⊢ Run c (Prog.ret a) Q := by
  unfold Run
  rw [wp_ret]
  iintro H
  imodintro
  iexact H

/-- A program and its continuation run one after the other. -/
theorem run_bind (c : Dev nD) {α β : Type} {p : Prog (TpuEff nD τ sig (Elt F) Λ₀ .tc) α}
    {k : α → Prog (TpuEff nD τ sig (Elt F) Λ₀ .tc) β} {Q : β → sProp 𝕄} :
    Run c p (fun a => Run c (k a) Q) ⊢ Run c (p >>= k) Q := by
  unfold Run
  rw [wp_bind]

/-- A copy's credit is one slot's, whichever slot the wait names. -/
theorem credit_slice {off : Fin 4 → Nat} {h : ∀ a, off a + S1x9x8x64.size a ≤ S16x9x8x64.size a} :
    ((cM.slice (Rect.unit (s := S16x9x8x64) off S1x9x8x64.size h) (fun _ => rfl)).squeeze S9x8x64 squeezes_S1x9x8x64_S9x8x64).view.dmaCredit = N := rfl

end Cert.Exchange

end
-- ==== Proof.PartsA.lean ====
/-
# The parts of the program, signals and copies

Parts 2, 3 signal that slots are ready; parts 6 to 11 wait for the targets' signals and copy the own slot to them.
-/
module

public import proofs.«01_k».proof.Proof.Sems

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-- Part 2: ready signals 4 to 8. -/
theorem run_part2 (K : Names) (c : Dev nD) {v2 : BitVec 32} {Kt : _ → sProp 𝕄} :
    iprop(records m K ∗ sigSt c 4)
      ⊢ iprop((sigSt c 9 -∗ Kt ⟨⟩)
          -∗ Run c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2) Kt) := by
  rw [k0_part2_eq_skeleton]; unfold k0_part2_skel
  simp only [semSignalWord, semWaitWord, semSignalHereWord, Prog.lift, Prog.bind_op, Prog.bind_ret, Prog.pure_eq_ret]
  iintro ⟨#HR, H⟩ Hk
  iapply (step_sig m K c (n := 4) (by decide) (tgt_of (k0_dev5_eq c)) (ready_of rfl) rfl) $$ [H]
  · isplitr; · iexact HR
    iexact H
  iintro H
  iapply (step_sig m K c (n := 5) (by decide) (tgt_of (k0_dev6_eq c)) (ready_of rfl) rfl) $$ [H]
  · isplitr; · iexact HR
    iexact H
  iintro H
  iapply (step_sig m K c (n := 6) (by decide) (tgt_of (k0_dev7_eq c)) (ready_of rfl) rfl) $$ [H]
  · isplitr; · iexact HR
    iexact H
  iintro H
  iapply (step_sig m K c (n := 7) (by decide) (tgt_of (k0_dev8_eq c)) (ready_of rfl) rfl) $$ [H]
  · isplitr; · iexact HR
    iexact H
  iintro H
  iapply (step_sig m K c (n := 8) (by decide) (tgt_of (k0_dev9_eq c)) (ready_of rfl) rfl) $$ [H]
  · isplitr; · iexact HR
    iexact H
  iintro H
  iapply (run_ret c)
  iapply Hk; iexact H

/-- Part 3: ready signals 9 to 13. -/
theorem run_part3 (K : Names) (c : Dev nD) {v2 : BitVec 32} {Kt : _ → sProp 𝕄} :
    iprop(records m K ∗ sigSt c 9)
      ⊢ iprop((sigSt c 14 -∗ Kt ⟨⟩)
          -∗ Run c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2) Kt) := by
  rw [k0_part3_eq_skeleton]; unfold k0_part3_skel
  simp only [semSignalWord, semWaitWord, semSignalHereWord, Prog.lift, Prog.bind_op, Prog.bind_ret, Prog.pure_eq_ret]
  iintro ⟨#HR, H⟩ Hk
  iapply (step_sig m K c (n := 9) (by decide) (tgt_of (k0_dev10_eq c)) (ready_of rfl) rfl) $$ [H]
  · isplitr; · iexact HR
    iexact H
  iintro H
  iapply (step_sig m K c (n := 10) (by decide) (tgt_of (k0_dev11_eq c)) (ready_of rfl) rfl) $$ [H]
  · isplitr; · iexact HR
    iexact H
  iintro H
  iapply (step_sig m K c (n := 11) (by decide) (tgt_of (k0_dev12_eq c)) (ready_of rfl) rfl) $$ [H]
  · isplitr; · iexact HR
    iexact H
  iintro H
  iapply (step_sig m K c (n := 12) (by decide) (tgt_of (k0_dev13_eq c)) (ready_of rfl) rfl) $$ [H]
  · isplitr; · iexact HR
    iexact H
  iintro H
  iapply (step_sig m K c (n := 13) (by decide) (tgt_of (k0_dev14_eq c)) (ready_of rfl) rfl) $$ [H]
  · isplitr; · iexact HR
    iexact H
  iintro H
  iapply (run_ret c)
  iapply Hk; iexact H

/-- Part 6: copies 1 to 2, each after its target's ready signal. -/
theorem run_part6 (K : Names) (c : Dev nD) {v2 : BitVec 32} (fs : Buf (Elt F) ((c : Thread nD τ).loc cc0_scratch0)) (hg : Good m c fs) {Kt : _ → sProp 𝕄} :
    iprop(records m K ∗ levAts L lv ∗ exSt c fs 2 1)
      ⊢ iprop((exSt c fs 4 3 -∗ Kt ⟨⟩)
          -∗ Run c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2) Kt) := by
  rw [k0_part6_eq_skeleton]; unfold k0_part6_skel
  simp only [semSignalWord, semWaitWord, semSignalHereWord, Prog.lift, Prog.bind_op, Prog.bind_ret, Prog.pure_eq_ret]
  iintro ⟨#HR, #Hlev, H⟩ Hk
  iapply (step_send m K c fs hg (n := 1) (by decide) (tgt_of (k0_dev17_eq c)) (send_of ⟨1, by decide⟩) (recv_of rfl)) $$ [H]
  · isplitr; · iexact HR
    iexact H
  iintro H
  iapply (step_ready m K c fs (n := 2) (by decide) (ready_of (off5_tgt c ⟨2, by decide⟩)) rfl) $$ [H]
  · isplitr; · iexact HR
    isplitr; · iexact Hlev
    iexact H
  iintro H
  iapply (step_send m K c fs hg (n := 2) (by decide) (tgt_of (k0_dev18_eq c)) (send_of ⟨2, by decide⟩) (recv_of rfl)) $$ [H]
  · isplitr; · iexact HR
    iexact H
  iintro H
  iapply (step_ready m K c fs (n := 3) (by decide) (ready_of (off5_tgt c ⟨3, by decide⟩)) rfl) $$ [H]
  · isplitr; · iexact HR
    isplitr; · iexact Hlev
    iexact H
  iintro H
  iapply (run_ret c)
  iapply Hk; iexact H

/-- Part 7: copies 3 to 4, each after its target's ready signal. -/
theorem run_part7 (K : Names) (c : Dev nD) {v2 : BitVec 32} (fs : Buf (Elt F) ((c : Thread nD τ).loc cc0_scratch0)) (hg : Good m c fs) {Kt : _ → sProp 𝕄} :
    iprop(records m K ∗ levAts L lv ∗ exSt c fs 4 3)
      ⊢ iprop((exSt c fs 6 5 -∗ Kt ⟨⟩)
          -∗ Run c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2) Kt) := by
  rw [k0_part7_eq_skeleton]; unfold k0_part7_skel
  simp only [semSignalWord, semWaitWord, semSignalHereWord, Prog.lift, Prog.bind_op, Prog.bind_ret, Prog.pure_eq_ret]
  iintro ⟨#HR, #Hlev, H⟩ Hk
  iapply (step_send m K c fs hg (n := 3) (by decide) (tgt_of (k0_dev19_eq c)) (send_of ⟨3, by decide⟩) (recv_of rfl)) $$ [H]
  · isplitr; · iexact HR
    iexact H
  iintro H
  iapply (step_ready m K c fs (n := 4) (by decide) (ready_of (off5_tgt c ⟨4, by decide⟩)) rfl) $$ [H]
  · isplitr; · iexact HR
    isplitr; · iexact Hlev
    iexact H
  iintro H
  iapply (step_send m K c fs hg (n := 4) (by decide) (tgt_of (k0_dev20_eq c)) (send_of ⟨4, by decide⟩) (recv_of rfl)) $$ [H]
  · isplitr; · iexact HR
    iexact H
  iintro H
  iapply (step_ready m K c fs (n := 5) (by decide) (ready_of (off5_tgt c ⟨5, by decide⟩)) rfl) $$ [H]
  · isplitr; · iexact HR
    isplitr; · iexact Hlev
    iexact H
  iintro H
  iapply (run_ret c)
  iapply Hk; iexact H

/-- Part 8: copies 5 to 6, each after its target's ready signal. -/
theorem run_part8 (K : Names) (c : Dev nD) {v2 : BitVec 32} (fs : Buf (Elt F) ((c : Thread nD τ).loc cc0_scratch0)) (hg : Good m c fs) {Kt : _ → sProp 𝕄} :
    iprop(records m K ∗ levAts L lv ∗ exSt c fs 6 5)
      ⊢ iprop((exSt c fs 8 7 -∗ Kt ⟨⟩)
          -∗ Run c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2) Kt) := by
  rw [k0_part8_eq_skeleton]; unfold k0_part8_skel
  simp only [semSignalWord, semWaitWord, semSignalHereWord, Prog.lift, Prog.bind_op, Prog.bind_ret, Prog.pure_eq_ret]
  iintro ⟨#HR, #Hlev, H⟩ Hk
  iapply (step_send m K c fs hg (n := 5) (by decide) (tgt_of (k0_dev21_eq c)) (send_of ⟨5, by decide⟩) (recv_of rfl)) $$ [H]
  · isplitr; · iexact HR
    iexact H
  iintro H
  iapply (step_ready m K c fs (n := 6) (by decide) (ready_of (off5_tgt c ⟨6, by decide⟩)) rfl) $$ [H]
  · isplitr; · iexact HR
    isplitr; · iexact Hlev
    iexact H
  iintro H
  iapply (step_send m K c fs hg (n := 6) (by decide) (tgt_of (k0_dev22_eq c)) (send_of ⟨6, by decide⟩) (recv_of rfl)) $$ [H]
  · isplitr; · iexact HR
    iexact H
  iintro H
  iapply (step_ready m K c fs (n := 7) (by decide) (ready_of (off5_tgt c ⟨7, by decide⟩)) rfl) $$ [H]
  · isplitr; · iexact HR
    isplitr; · iexact Hlev
    iexact H
  iintro H
  iapply (run_ret c)
  iapply Hk; iexact H

/-- Part 9: copies 7 to 8, each after its target's ready signal. -/
theorem run_part9 (K : Names) (c : Dev nD) {v2 : BitVec 32} (fs : Buf (Elt F) ((c : Thread nD τ).loc cc0_scratch0)) (hg : Good m c fs) {Kt : _ → sProp 𝕄} :
    iprop(records m K ∗ levAts L lv ∗ exSt c fs 8 7)
      ⊢ iprop((exSt c fs 10 9 -∗ Kt ⟨⟩)
          -∗ Run c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2) Kt) := by
  rw [k0_part9_eq_skeleton]; unfold k0_part9_skel
  simp only [semSignalWord, semWaitWord, semSignalHereWord, Prog.lift, Prog.bind_op, Prog.bind_ret, Prog.pure_eq_ret]
  iintro ⟨#HR, #Hlev, H⟩ Hk
  iapply (step_send m K c fs hg (n := 7) (by decide) (tgt_of (k0_dev23_eq c)) (send_of ⟨7, by decide⟩) (recv_of rfl)) $$ [H]
  · isplitr; · iexact HR
    iexact H
  iintro H
  iapply (step_ready m K c fs (n := 8) (by decide) (ready_of (off5_tgt c ⟨8, by decide⟩)) rfl) $$ [H]
  · isplitr; · iexact HR
    isplitr; · iexact Hlev
    iexact H
  iintro H
  iapply (step_send m K c fs hg (n := 8) (by decide) (tgt_of (k0_dev24_eq c)) (send_of ⟨8, by decide⟩) (recv_of rfl)) $$ [H]
  · isplitr; · iexact HR
    iexact H
  iintro H
  iapply (step_ready m K c fs (n := 9) (by decide) (ready_of (off5_tgt c ⟨9, by decide⟩)) rfl) $$ [H]
  · isplitr; · iexact HR
    isplitr; · iexact Hlev
    iexact H
  iintro H
  iapply (run_ret c)
  iapply Hk; iexact H

/-- Part 10: copies 9 to 10, each after its target's ready signal. -/
theorem run_part10 (K : Names) (c : Dev nD) {v2 : BitVec 32} (fs : Buf (Elt F) ((c : Thread nD τ).loc cc0_scratch0)) (hg : Good m c fs) {Kt : _ → sProp 𝕄} :
    iprop(records m K ∗ levAts L lv ∗ exSt c fs 10 9)
      ⊢ iprop((exSt c fs 12 11 -∗ Kt ⟨⟩)
          -∗ Run c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2) Kt) := by
  rw [k0_part10_eq_skeleton]; unfold k0_part10_skel
  simp only [semSignalWord, semWaitWord, semSignalHereWord, Prog.lift, Prog.bind_op, Prog.bind_ret, Prog.pure_eq_ret]
  iintro ⟨#HR, #Hlev, H⟩ Hk
  iapply (step_send m K c fs hg (n := 9) (by decide) (tgt_of (k0_dev25_eq c)) (send_of ⟨9, by decide⟩) (recv_of rfl)) $$ [H]
  · isplitr; · iexact HR
    iexact H
  iintro H
  iapply (step_ready m K c fs (n := 10) (by decide) (ready_of (off5_tgt c ⟨10, by decide⟩)) rfl) $$ [H]
  · isplitr; · iexact HR
    isplitr; · iexact Hlev
    iexact H
  iintro H
  iapply (step_send m K c fs hg (n := 10) (by decide) (tgt_of (k0_dev26_eq c)) (send_of ⟨10, by decide⟩) (recv_of rfl)) $$ [H]
  · isplitr; · iexact HR
    iexact H
  iintro H
  iapply (step_ready m K c fs (n := 11) (by decide) (ready_of (off5_tgt c ⟨11, by decide⟩)) rfl) $$ [H]
  · isplitr; · iexact HR
    isplitr; · iexact Hlev
    iexact H
  iintro H
  iapply (run_ret c)
  iapply Hk; iexact H

/-- Part 11: copies 11 to 12, each after its target's ready signal. -/
theorem run_part11 (K : Names) (c : Dev nD) {v2 : BitVec 32} (fs : Buf (Elt F) ((c : Thread nD τ).loc cc0_scratch0)) (hg : Good m c fs) {Kt : _ → sProp 𝕄} :
    iprop(records m K ∗ levAts L lv ∗ exSt c fs 12 11)
      ⊢ iprop((exSt c fs 14 13 -∗ Kt ⟨⟩)
          -∗ Run c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2) Kt) := by
  rw [k0_part11_eq_skeleton]; unfold k0_part11_skel
  simp only [semSignalWord, semWaitWord, semSignalHereWord, Prog.lift, Prog.bind_op, Prog.bind_ret, Prog.pure_eq_ret]
  iintro ⟨#HR, #Hlev, H⟩ Hk
  iapply (step_send m K c fs hg (n := 11) (by decide) (tgt_of (k0_dev27_eq c)) (send_of ⟨11, by decide⟩) (recv_of rfl)) $$ [H]
  · isplitr; · iexact HR
    iexact H
  iintro H
  iapply (step_ready m K c fs (n := 12) (by decide) (ready_of (off5_tgt c ⟨12, by decide⟩)) rfl) $$ [H]
  · isplitr; · iexact HR
    isplitr; · iexact Hlev
    iexact H
  iintro H
  iapply (step_send m K c fs hg (n := 12) (by decide) (tgt_of (k0_dev28_eq c)) (send_of ⟨12, by decide⟩) (recv_of rfl)) $$ [H]
  · isplitr; · iexact HR
    iexact H
  iintro H
  iapply (step_ready m K c fs (n := 13) (by decide) (ready_of (off5_tgt c ⟨13, by decide⟩)) rfl) $$ [H]
  · isplitr; · iexact HR
    isplitr; · iexact Hlev
    iexact H
  iintro H
  iapply (run_ret c)
  iapply Hk; iexact H

end Cert.Exchange

end
-- ==== Proof.PartsB.lean ====
/-
# The parts of the program, receives

Parts 13 to 18 wait for the other devices' slots and add them up; parts 21 to 23 wait for the copies out.
-/
module

public import proofs.«01_k».proof.Proof.Sems

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-- `x` is device `s`'s partial sums on the lanes that are written. -/
def Got (s : Dev nD) (x : Vec F S1x9x8x64 .bf16) : Prop := ∀ j, Used j → x j = slotVal m s j

/-- Part 13: the slots of steps 0 and 1. -/
theorem run_part13 (K : Names) (c : Dev nD) {v2 : BitVec 32} {va : FVec F S9x8x64 .f32} {v343 : BitVec 32} {Kt : _ → sProp 𝕄} :
    iprop(records m K ∗ rcSt m c 0 0)
      ⊢ iprop((∀ x0 x1, ∀ w, ⌜Got m (src c 0) x0⌝ -∗ ⌜Got m (src c 1) x1⌝ -∗ rcSt m c 2 2 -∗ Kt ⟨k0_pay7 va x0 x1, w⟩)
          -∗ Run c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2 va v343) Kt) := by
  rw [k0_part13_eq_skeleton]; unfold k0_part13_skel
  simp only [semSignalWord, semWaitWord, semSignalHereWord, Prog.lift, Prog.bind_op, Prog.bind_ret, Prog.pure_eq_ret]
  iintro ⟨#HR, H⟩ Hk
  iapply (step_recv m K c (n := 0) (n' := 0) (by decide) (by decide) (recv_of (off7_src c ⟨0, of_decide_eq_true rfl⟩)) credit_slice) $$ [H]
  · isplitr; · iexact HR
    iexact H
  iintro H
  iapply (step_load m c (n := 1) (n' := 0) (by decide) (off9_src c ⟨0, of_decide_eq_true rfl⟩)) $$ [H]
  · iexact H
  iintro %x0 %hx0 H
  iapply (step_recv m K c (n := 1) (n' := 1) (by decide) (by decide) (recv_of (off7_src c ⟨1, of_decide_eq_true rfl⟩)) credit_slice) $$ [H]
  · isplitr; · iexact HR
    iexact H
  iintro H
  iapply (step_load m c (n := 2) (n' := 1) (by decide) (off9_src c ⟨1, of_decide_eq_true rfl⟩)) $$ [H]
  · iexact H
  iintro %x1 %hx1 H
  iapply (run_ret c)
  ispecialize Hk $$ %x0
  ispecialize Hk $$ %x1
  ispecialize Hk $$ %_
  ispecialize Hk $$ %hx0
  ispecialize Hk $$ %hx1
  iapply Hk; iexact H

/-- Part 14: the slots of steps 2 and 3. -/
theorem run_part14 (K : Names) (c : Dev nD) {v2 : BitVec 32} {va : FVec F S9x8x64 .f32} {v375 : BitVec 32} {Kt : _ → sProp 𝕄} :
    iprop(records m K ∗ rcSt m c 2 2)
      ⊢ iprop((∀ x2 x3, ∀ w, ⌜Got m (src c 2) x2⌝ -∗ ⌜Got m (src c 3) x3⌝ -∗ rcSt m c 4 4 -∗ Kt ⟨k0_pay8 va x2 x3, w⟩)
          -∗ Run c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2 va v375) Kt) := by
  rw [k0_part14_eq_skeleton]; unfold k0_part14_skel
  simp only [semSignalWord, semWaitWord, semSignalHereWord, Prog.lift, Prog.bind_op, Prog.bind_ret, Prog.pure_eq_ret]
  iintro ⟨#HR, H⟩ Hk
  iapply (step_recv m K c (n := 2) (n' := 2) (by decide) (by decide) (recv_of (off7_src c ⟨2, of_decide_eq_true rfl⟩)) credit_slice) $$ [H]
  · isplitr; · iexact HR
    iexact H
  iintro H
  iapply (step_load m c (n := 3) (n' := 2) (by decide) (off9_src c ⟨2, of_decide_eq_true rfl⟩)) $$ [H]
  · iexact H
  iintro %x2 %hx2 H
  iapply (step_recv m K c (n := 3) (n' := 3) (by decide) (by decide) (recv_of (off7_src c ⟨3, of_decide_eq_true rfl⟩)) credit_slice) $$ [H]
  · isplitr; · iexact HR
    iexact H
  iintro H
  iapply (step_load m c (n := 4) (n' := 3) (by decide) (off9_src c ⟨3, of_decide_eq_true rfl⟩)) $$ [H]
  · iexact H
  iintro %x3 %hx3 H
  iapply (run_ret c)
  ispecialize Hk $$ %x2
  ispecialize Hk $$ %x3
  ispecialize Hk $$ %_
  ispecialize Hk $$ %hx2
  ispecialize Hk $$ %hx3
  iapply Hk; iexact H

/-- Part 15: the slots of steps 4 and 5. -/
theorem run_part15 (K : Names) (c : Dev nD) {v2 : BitVec 32} {va : FVec F S9x8x64 .f32} {v407 : BitVec 32} {Kt : _ → sProp 𝕄} :
    iprop(records m K ∗ rcSt m c 4 4)
      ⊢ iprop((∀ x4 x5, ∀ w w', ⌜Got m (src c 4) x4⌝ -∗ ⌜Got m (src c 5) x5⌝ -∗ rcSt m c 6 6 -∗ Kt ⟨k0_pay9 va x4 x5, w, w'⟩)
          -∗ Run c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2 va v407) Kt) := by
  rw [k0_part15_eq_skeleton]; unfold k0_part15_skel
  simp only [semSignalWord, semWaitWord, semSignalHereWord, Prog.lift, Prog.bind_op, Prog.bind_ret, Prog.pure_eq_ret]
  iintro ⟨#HR, H⟩ Hk
  iapply (step_recv m K c (n := 4) (n' := 4) (by decide) (by decide) (recv_of (off7_src c ⟨4, of_decide_eq_true rfl⟩)) credit_slice) $$ [H]
  · isplitr; · iexact HR
    iexact H
  iintro H
  iapply (step_load m c (n := 5) (n' := 4) (by decide) (off9_src c ⟨4, of_decide_eq_true rfl⟩)) $$ [H]
  · iexact H
  iintro %x4 %hx4 H
  iapply (step_recv m K c (n := 5) (n' := 5) (by decide) (by decide) (recv_of (off7_src c ⟨5, of_decide_eq_true rfl⟩)) credit_slice) $$ [H]
  · isplitr; · iexact HR
    iexact H
  iintro H
  iapply (step_load m c (n := 6) (n' := 5) (by decide) (off9_src c ⟨5, of_decide_eq_true rfl⟩)) $$ [H]
  · iexact H
  iintro %x5 %hx5 H
  iapply (run_ret c)
  ispecialize Hk $$ %x4
  ispecialize Hk $$ %x5
  ispecialize Hk $$ %_
  ispecialize Hk $$ %_
  ispecialize Hk $$ %hx4
  ispecialize Hk $$ %hx5
  iapply Hk; iexact H

/-- Part 16: the slots of steps 6 and 7. -/
theorem run_part16 (K : Names) (c : Dev nD) {v2 : BitVec 32} {va : FVec F S9x8x64 .f32} {v439 v440 : BitVec 32} {Kt : _ → sProp 𝕄} :
    iprop(records m K ∗ rcSt m c 6 6)
      ⊢ iprop((∀ x6 x7, ∀ w w', ⌜Got m (src c 6) x6⌝ -∗ ⌜Got m (src c 7) x7⌝ -∗ rcSt m c 8 8 -∗ Kt ⟨k0_pay10 va x6 x7, w, w'⟩)
          -∗ Run c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2 va v439 v440) Kt) := by
  rw [k0_part16_eq_skeleton]; unfold k0_part16_skel
  simp only [semSignalWord, semWaitWord, semSignalHereWord, Prog.lift, Prog.bind_op, Prog.bind_ret, Prog.pure_eq_ret]
  iintro ⟨#HR, H⟩ Hk
  iapply (step_recv m K c (n := 6) (n' := 6) (by decide) (by decide) (recv_of (off7_src c ⟨6, of_decide_eq_true rfl⟩)) credit_slice) $$ [H]
  · isplitr; · iexact HR
    iexact H
  iintro H
  iapply (step_load m c (n := 7) (n' := 6) (by decide) (off9_src c ⟨6, of_decide_eq_true rfl⟩)) $$ [H]
  · iexact H
  iintro %x6 %hx6 H
  iapply (step_recv m K c (n := 7) (n' := 7) (by decide) (by decide) (recv_of (off7_src c ⟨7, of_decide_eq_true rfl⟩)) credit_slice) $$ [H]
  · isplitr; · iexact HR
    iexact H
  iintro H
  iapply (step_load m c (n := 8) (n' := 7) (by decide) (off9_src c ⟨7, of_decide_eq_true rfl⟩)) $$ [H]
  · iexact H
  iintro %x7 %hx7 H
  iapply (run_ret c)
  ispecialize Hk $$ %x6
  ispecialize Hk $$ %x7
  ispecialize Hk $$ %_
  ispecialize Hk $$ %_
  ispecialize Hk $$ %hx6
  ispecialize Hk $$ %hx7
  iapply Hk; iexact H

/-- Part 17: the slots of steps 8 and 9. -/
theorem run_part17 (K : Names) (c : Dev nD) {v2 : BitVec 32} {va : FVec F S9x8x64 .f32} {v470 v471 : BitVec 32} {Kt : _ → sProp 𝕄} :
    iprop(records m K ∗ rcSt m c 8 8)
      ⊢ iprop((∀ x8 x9, ∀ w, ⌜Got m (src c 8) x8⌝ -∗ ⌜Got m (src c 9) x9⌝ -∗ rcSt m c 10 10 -∗ Kt ⟨k0_pay11 va x8 x9, w⟩)
          -∗ Run c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2 va v470 v471) Kt) := by
  rw [k0_part17_eq_skeleton]; unfold k0_part17_skel
  simp only [semSignalWord, semWaitWord, semSignalHereWord, Prog.lift, Prog.bind_op, Prog.bind_ret, Prog.pure_eq_ret]
  iintro ⟨#HR, H⟩ Hk
  iapply (step_recv m K c (n := 8) (n' := 8) (by decide) (by decide) (recv_of (off7_src c ⟨8, of_decide_eq_true rfl⟩)) credit_slice) $$ [H]
  · isplitr; · iexact HR
    iexact H
  iintro H
  iapply (step_load m c (n := 9) (n' := 8) (by decide) (off9_src c ⟨8, of_decide_eq_true rfl⟩)) $$ [H]
  · iexact H
  iintro %x8 %hx8 H
  iapply (step_recv m K c (n := 9) (n' := 9) (by decide) (by decide) (recv_of (off7_src c ⟨9, of_decide_eq_true rfl⟩)) credit_slice) $$ [H]
  · isplitr; · iexact HR
    iexact H
  iintro H
  iapply (step_load m c (n := 10) (n' := 9) (by decide) (off9_src c ⟨9, of_decide_eq_true rfl⟩)) $$ [H]
  · iexact H
  iintro %x9 %hx9 H
  iapply (run_ret c)
  ispecialize Hk $$ %x8
  ispecialize Hk $$ %x9
  ispecialize Hk $$ %_
  ispecialize Hk $$ %hx8
  ispecialize Hk $$ %hx9
  iapply Hk; iexact H

/-- Part 18: the slots of steps 10 and 11. -/
theorem run_part18 (K : Names) (c : Dev nD) {v2 : BitVec 32} {va : FVec F S9x8x64 .f32} {v472 : BitVec 32} {Kt : _ → sProp 𝕄} :
    iprop(records m K ∗ rcSt m c 10 10)
      ⊢ iprop((∀ x10 x11, ⌜Got m (src c 10) x10⌝ -∗ ⌜Got m (src c 11) x11⌝ -∗ rcSt m c 12 12 -∗ Kt ⟨k0_pay12 va x10, x11⟩)
          -∗ Run c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2 va v472) Kt) := by
  rw [k0_part18_eq_skeleton]; unfold k0_part18_skel
  simp only [semSignalWord, semWaitWord, semSignalHereWord, Prog.lift, Prog.bind_op, Prog.bind_ret, Prog.pure_eq_ret]
  iintro ⟨#HR, H⟩ Hk
  iapply (step_recv m K c (n := 10) (n' := 10) (by decide) (by decide) (recv_of (off7_src c ⟨10, of_decide_eq_true rfl⟩)) credit_slice) $$ [H]
  · isplitr; · iexact HR
    iexact H
  iintro H
  iapply (step_load m c (n := 11) (n' := 10) (by decide) (off9_src c ⟨10, of_decide_eq_true rfl⟩)) $$ [H]
  · iexact H
  iintro %x10 %hx10 H
  iapply (step_recv m K c (n := 11) (n' := 11) (by decide) (by decide) (recv_of (off7_src c ⟨11, of_decide_eq_true rfl⟩)) credit_slice) $$ [H]
  · isplitr; · iexact HR
    iexact H
  iintro H
  iapply (step_load m c (n := 12) (n' := 11) (by decide) (off9_src c ⟨11, of_decide_eq_true rfl⟩)) $$ [H]
  · iexact H
  iintro %x11 %hx11 H
  iapply (run_ret c)
  ispecialize Hk $$ %x10
  ispecialize Hk $$ %x11
  ispecialize Hk $$ %hx10
  ispecialize Hk $$ %hx11
  iapply Hk; iexact H

/-- Part 19: the slot of step 12, and the wait of step 13. -/
theorem run_part19 (K : Names) (c : Dev nD) {v2 : BitVec 32} {va : FVec F S9x8x64 .f32} {xb : Vec F S1x9x8x64 .bf16} {Kt : _ → sProp 𝕄} :
    iprop(records m K ∗ rcSt m c 12 12)
      ⊢ iprop((∀ x12, ⌜Got m (src c 12) x12⌝ -∗ rcSt m c 14 13 -∗ Kt (k0_pay13 va xb x12))
          -∗ Run c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2 va xb) Kt) := by
  rw [k0_part19_eq_skeleton]; unfold k0_part19_skel
  simp only [semSignalWord, semWaitWord, semSignalHereWord, Prog.lift, Prog.bind_op, Prog.bind_ret, Prog.pure_eq_ret]
  iintro ⟨#HR, H⟩ Hk
  iapply (step_recv m K c (n := 12) (n' := 12) (by decide) (by decide) (recv_of (off7_src c ⟨12, of_decide_eq_true rfl⟩)) credit_slice) $$ [H]
  · isplitr; · iexact HR
    iexact H
  iintro H
  iapply (step_load m c (n := 13) (n' := 12) (by decide) (off9_src c ⟨12, of_decide_eq_true rfl⟩)) $$ [H]
  · iexact H
  iintro %x12 %hx12 H
  iapply (step_recv m K c (n := 13) (n' := 13) (by decide) (by decide) (recv_of (off7_src c ⟨13, of_decide_eq_true rfl⟩)) credit_slice) $$ [H]
  · isplitr; · iexact HR
    iexact H
  iintro H
  iapply (run_ret c)
  ispecialize Hk $$ %x12
  ispecialize Hk $$ %hx12
  iapply Hk; iexact H

/-- Part 21: the waits for copies 0 to 3. -/
theorem run_part21 (K : Names) (c : Dev nD) {Kt : _ → sProp 𝕄} :
    iprop(records m K ∗ sdSt c 0)
      ⊢ iprop((sdSt c 4 -∗ Kt ⟨⟩)
          -∗ Run c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c) Kt) := by
  rw [k0_part21_eq_skeleton]; unfold k0_part21_skel
  simp only [semSignalWord, semWaitWord, semSignalHereWord, Prog.lift, Prog.bind_op, Prog.bind_ret, Prog.pure_eq_ret]
  iintro ⟨#HR, H⟩ Hk
  iapply (step_sent m K c (n := 0) (by decide) (send_of ⟨0, by decide⟩) credit_slice) $$ [H]
  · isplitr; · iexact HR
    iexact H
  iintro H
  iapply (step_sent m K c (n := 1) (by decide) (send_of ⟨1, by decide⟩) credit_slice) $$ [H]
  · isplitr; · iexact HR
    iexact H
  iintro H
  iapply (step_sent m K c (n := 2) (by decide) (send_of ⟨2, by decide⟩) credit_slice) $$ [H]
  · isplitr; · iexact HR
    iexact H
  iintro H
  iapply (step_sent m K c (n := 3) (by decide) (send_of ⟨3, by decide⟩) credit_slice) $$ [H]
  · isplitr; · iexact HR
    iexact H
  iintro H
  iapply (run_ret c)
  iapply Hk; iexact H

/-- Part 22: the waits for copies 4 to 7. -/
theorem run_part22 (K : Names) (c : Dev nD) {Kt : _ → sProp 𝕄} :
    iprop(records m K ∗ sdSt c 4)
      ⊢ iprop((sdSt c 8 -∗ Kt ⟨⟩)
          -∗ Run c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c) Kt) := by
  rw [k0_part22_eq_skeleton]; unfold k0_part22_skel
  simp only [semSignalWord, semWaitWord, semSignalHereWord, Prog.lift, Prog.bind_op, Prog.bind_ret, Prog.pure_eq_ret]
  iintro ⟨#HR, H⟩ Hk
  iapply (step_sent m K c (n := 4) (by decide) (send_of ⟨4, by decide⟩) credit_slice) $$ [H]
  · isplitr; · iexact HR
    iexact H
  iintro H
  iapply (step_sent m K c (n := 5) (by decide) (send_of ⟨5, by decide⟩) credit_slice) $$ [H]
  · isplitr; · iexact HR
    iexact H
  iintro H
  iapply (step_sent m K c (n := 6) (by decide) (send_of ⟨6, by decide⟩) credit_slice) $$ [H]
  · isplitr; · iexact HR
    iexact H
  iintro H
  iapply (step_sent m K c (n := 7) (by decide) (send_of ⟨7, by decide⟩) credit_slice) $$ [H]
  · isplitr; · iexact HR
    iexact H
  iintro H
  iapply (run_ret c)
  iapply Hk; iexact H

/-- Part 23: the waits for copies 8 to 11. -/
theorem run_part23 (K : Names) (c : Dev nD) {Kt : _ → sProp 𝕄} :
    iprop(records m K ∗ sdSt c 8)
      ⊢ iprop((sdSt c 12 -∗ Kt ⟨⟩)
          -∗ Run c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c) Kt) := by
  rw [k0_part23_eq_skeleton]; unfold k0_part23_skel
  simp only [semSignalWord, semWaitWord, semSignalHereWord, Prog.lift, Prog.bind_op, Prog.bind_ret, Prog.pure_eq_ret]
  iintro ⟨#HR, H⟩ Hk
  iapply (step_sent m K c (n := 8) (by decide) (send_of ⟨8, by decide⟩) credit_slice) $$ [H]
  · isplitr; · iexact HR
    iexact H
  iintro H
  iapply (step_sent m K c (n := 9) (by decide) (send_of ⟨9, by decide⟩) credit_slice) $$ [H]
  · isplitr; · iexact HR
    iexact H
  iintro H
  iapply (step_sent m K c (n := 10) (by decide) (send_of ⟨10, by decide⟩) credit_slice) $$ [H]
  · isplitr; · iexact HR
    iexact H
  iintro H
  iapply (step_sent m K c (n := 11) (by decide) (send_of ⟨11, by decide⟩) credit_slice) $$ [H]
  · isplitr; · iexact HR
    iexact H
  iintro H
  iapply (run_ret c)
  iapply Hk; iexact H

end Cert.Exchange

end
-- ==== Proof.PartsC.lean ====
/-
# The parts of the program, the ends of each phase

Part 1 passes the own barrier; parts 4 and 5 load the blocks and store the own slot; part 12 ends the copies out and loads the own
slot; part 20 ends the receives and stores the result.
-/
module

public import proofs.«01_k».proof.Proof.PartsB

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-- A whole staging buffer holding `X`. -/
abbrev hold (c : Dev nD) (b : Ref sig .tc) (X : b.ty.Contents (Elt F)) : sProp 𝕄 := ((c : Thread nD τ).loc b) ↦{fullShare} (X : Buf (Elt F) ((c : Thread nD τ).loc b))

theorem z4 : (![0, 0, 0, 0] : Fin 4 → Nat) = fun _ => 0 := funext fun a => by fin_cases a <;> rfl

theorem sig_done (c : Dev nD) : sigSt c 15 ⊢ (Owe c (OV c 0) : sProp 𝕄) := by
  unfold sigSt
  rw [OR_end, add_zero]
  iintro ⟨H, -⟩
  iexact H

theorem sub_own {s' : Shape} (c : Dev nD) (r : Rect S9x8x64) : (slotM c).view.setOn r.toLoadRect.set ⊆ slotSet c := by
  rw [← slot_set]; exact View.setOn_subset_set _ _

/-- A whole staging buffer loaded. -/
theorem load_q (c : Dev nD) (X : (cc0_stg0_0 : Ref sig .tc).ty.Contents (Elt F)) {h : ∀ a, (![0, 0, 0, 0] : Fin 4 → Nat) a + S8x1x8x64.size a ≤ S8x1x8x64.size a}
    {hl : (Memref.whole cc0_stg0_0 : Memref sig .tc .vmem S8x1x8x64 .f32).view.LoadsAt (Rect.unit (s := S8x1x8x64) ![0, 0, 0, 0] S8x1x8x64.size h).toLoadRect}
    {α : Type} {Q : α → sProp 𝕄} {k : Vec F S8x1x8x64 .f32 → Prog (TpuEff nD τ sig (Elt F) Λ₀ .tc) α} :
    hold c cc0_stg0_0 X ⊢ iprop((hold c cc0_stg0_0 X -∗ Run c (k X) Q)
      -∗ Run c (.op (.load (Memref.whole cc0_stg0_0 : Memref sig .tc .vmem S8x1x8x64 .f32) (Rect.unit (s := S8x1x8x64) ![0, 0, 0, 0] S8x1x8x64.size h).toLoadRect hl) k) Q) := by
  have hr : (Memref.whole cc0_stg0_0 : Memref sig .tc .vmem S8x1x8x64 .f32).view.readAt (Elt F) (Rect.unit (s := S8x1x8x64) ![0, 0, 0, 0] S8x1x8x64.size h).toLoadRect X = X :=
    Memref.readAt_unit_zero (Elt F) cc0_stg0_0 z4 _ X
  have key := wp_load (defs := defs₀ (F := F)) 𝒱₀ (c : Thread nD τ) none (Γ := PendingWaitsCtx.empty) Set.univ (Q := Q) (m := (Memref.whole cc0_stg0_0 : Memref sig .tc .vmem S8x1x8x64 .f32)) (hl := hl) (k := k) (q := fullShare) (f := X) (Finset.subset_univ _)
  rw [hr] at key
  exact key

/-- A whole staging buffer loaded. -/
theorem load_k (c : Dev nD) (X : (cc0_stg1_0 : Ref sig .tc).ty.Contents (Elt F)) {h : ∀ a, (![0, 0, 0, 0] : Fin 4 → Nat) a + S8x512x8x64.size a ≤ S8x512x8x64.size a}
    {hl : (Memref.whole cc0_stg1_0 : Memref sig .tc .vmem S8x512x8x64 .f32).view.LoadsAt (Rect.unit (s := S8x512x8x64) ![0, 0, 0, 0] S8x512x8x64.size h).toLoadRect}
    {α : Type} {Q : α → sProp 𝕄} {k : Vec F S8x512x8x64 .f32 → Prog (TpuEff nD τ sig (Elt F) Λ₀ .tc) α} :
    hold c cc0_stg1_0 X ⊢ iprop((hold c cc0_stg1_0 X -∗ Run c (k X) Q)
      -∗ Run c (.op (.load (Memref.whole cc0_stg1_0 : Memref sig .tc .vmem S8x512x8x64 .f32) (Rect.unit (s := S8x512x8x64) ![0, 0, 0, 0] S8x512x8x64.size h).toLoadRect hl) k) Q) := by
  have hr : (Memref.whole cc0_stg1_0 : Memref sig .tc .vmem S8x512x8x64 .f32).view.readAt (Elt F) (Rect.unit (s := S8x512x8x64) ![0, 0, 0, 0] S8x512x8x64.size h).toLoadRect X = X :=
    Memref.readAt_unit_zero (Elt F) cc0_stg1_0 z4 _ X
  have key := wp_load (defs := defs₀ (F := F)) 𝒱₀ (c : Thread nD τ) none (Γ := PendingWaitsCtx.empty) Set.univ (Q := Q) (m := (Memref.whole cc0_stg1_0 : Memref sig .tc .vmem S8x512x8x64 .f32)) (hl := hl) (k := k) (q := fullShare) (f := X) (Finset.subset_univ _)
  rw [hr] at key
  exact key

/-- A whole staging buffer loaded. -/
theorem load_v (c : Dev nD) (X : (cc0_stg2_0 : Ref sig .tc).ty.Contents (Elt F)) {h : ∀ a, (![0, 0, 0, 0] : Fin 4 → Nat) a + S8x512x8x64.size a ≤ S8x512x8x64.size a}
    {hl : (Memref.whole cc0_stg2_0 : Memref sig .tc .vmem S8x512x8x64 .f32).view.LoadsAt (Rect.unit (s := S8x512x8x64) ![0, 0, 0, 0] S8x512x8x64.size h).toLoadRect}
    {α : Type} {Q : α → sProp 𝕄} {k : Vec F S8x512x8x64 .f32 → Prog (TpuEff nD τ sig (Elt F) Λ₀ .tc) α} :
    hold c cc0_stg2_0 X ⊢ iprop((hold c cc0_stg2_0 X -∗ Run c (k X) Q)
      -∗ Run c (.op (.load (Memref.whole cc0_stg2_0 : Memref sig .tc .vmem S8x512x8x64 .f32) (Rect.unit (s := S8x512x8x64) ![0, 0, 0, 0] S8x512x8x64.size h).toLoadRect hl) k) Q) := by
  have hr : (Memref.whole cc0_stg2_0 : Memref sig .tc .vmem S8x512x8x64 .f32).view.readAt (Elt F) (Rect.unit (s := S8x512x8x64) ![0, 0, 0, 0] S8x512x8x64.size h).toLoadRect X = X :=
    Memref.readAt_unit_zero (Elt F) cc0_stg2_0 z4 _ X
  have key := wp_load (defs := defs₀ (F := F)) 𝒱₀ (c : Thread nD τ) none (Γ := PendingWaitsCtx.empty) Set.univ (Q := Q) (m := (Memref.whole cc0_stg2_0 : Memref sig .tc .vmem S8x512x8x64 .f32)) (hl := hl) (k := k) (q := fullShare) (f := X) (Finset.subset_univ _)
  rw [hr] at key
  exact key

/-- A whole staging buffer loaded. -/
theorem load_o (c : Dev nD) (X : (cc0_stg3_0 : Ref sig .tc).ty.Contents (Elt F)) {h : ∀ a, (![0, 0, 0, 0] : Fin 4 → Nat) a + S8x1x8x64.size a ≤ S8x1x8x64.size a}
    {hl : (Memref.whole cc0_stg3_0 : Memref sig .tc .vmem S8x1x8x64 .f32).view.LoadsAt (Rect.unit (s := S8x1x8x64) ![0, 0, 0, 0] S8x1x8x64.size h).toLoadRect}
    {α : Type} {Q : α → sProp 𝕄} {k : Vec F S8x1x8x64 .f32 → Prog (TpuEff nD τ sig (Elt F) Λ₀ .tc) α} :
    hold c cc0_stg3_0 X ⊢ iprop((hold c cc0_stg3_0 X -∗ Run c (k X) Q)
      -∗ Run c (.op (.load (Memref.whole cc0_stg3_0 : Memref sig .tc .vmem S8x1x8x64 .f32) (Rect.unit (s := S8x1x8x64) ![0, 0, 0, 0] S8x1x8x64.size h).toLoadRect hl) k) Q) := by
  have hr : (Memref.whole cc0_stg3_0 : Memref sig .tc .vmem S8x1x8x64 .f32).view.readAt (Elt F) (Rect.unit (s := S8x1x8x64) ![0, 0, 0, 0] S8x1x8x64.size h).toLoadRect X = X :=
    Memref.readAt_unit_zero (Elt F) cc0_stg3_0 z4 _ X
  have key := wp_load (defs := defs₀ (F := F)) 𝒱₀ (c : Thread nD τ) none (Γ := PendingWaitsCtx.empty) Set.univ (Q := Q) (m := (Memref.whole cc0_stg3_0 : Memref sig .tc .vmem S8x1x8x64 .f32)) (hl := hl) (k := k) (q := fullShare) (f := X) (Finset.subset_univ _)
  rw [hr] at key
  exact key

/-- The whole result buffer stored. -/
theorem store_o (c : Dev nD) (X : (cc0_stg3_0 : Ref sig .tc).ty.Contents (Elt F)) {h : ∀ a, (![0, 0, 0, 0] : Fin 4 → Nat) a + S8x1x8x64.size a ≤ S8x1x8x64.size a} {w : Vec F S8x1x8x64 .f32}
    {hx : ((Memref.whole cc0_stg3_0 : Memref sig .tc .vmem S8x1x8x64 .f32).access (Rect.unit (s := S8x1x8x64) ![0, 0, 0, 0] S8x1x8x64.size h)).Stores Finset.univ}
    {hm : (Finset.univ : Finset (Rect.unit (s := S8x1x8x64) ![0, 0, 0, 0] S8x1x8x64.size h).shape.Idx) = Finset.univ ∨ ∀ a, (Rect.unit (s := S8x1x8x64) ![0, 0, 0, 0] S8x1x8x64.size h).stride a = 1}
    {α : Type} {Q : α → sProp 𝕄} {k : PUnit → Prog (TpuEff nD τ sig (Elt F) Λ₀ .tc) α} :
    hold c cc0_stg3_0 X ⊢ iprop((hold c cc0_stg3_0 w -∗ Run c (k ⟨⟩) Q)
      -∗ Run c (.op (.store (Memref.whole cc0_stg3_0 : Memref sig .tc .vmem S8x1x8x64 .f32) (Rect.unit (s := S8x1x8x64) ![0, 0, 0, 0] S8x1x8x64.size h) w Finset.univ hx hm) k) Q) := by
  have hr : ((Memref.whole cc0_stg3_0 : Memref sig .tc .vmem S8x1x8x64 .f32).access (Rect.unit (s := S8x1x8x64) ![0, 0, 0, 0] S8x1x8x64.size h) : View sig .tc _ _ _).write (Elt F) X w Finset.univ = w :=
    Memref.write_access_unit_zero_univ (Elt F) cc0_stg3_0 z4 _ X w
  have key := wp_store (defs := defs₀ (F := F)) 𝒱₀ (c : Thread nD τ) none (Γ := PendingWaitsCtx.empty) Set.univ (Q := Q) (m := (Memref.whole cc0_stg3_0 : Memref sig .tc .vmem S8x1x8x64 .f32)) (r := Rect.unit (s := S8x1x8x64) ![0, 0, 0, 0] S8x1x8x64.size h) (w := w) (Mk := Finset.univ) (hx := hx) (hm := hm) (k := k) (f := X) (Finset.subset_univ _)
  rw [hr] at key
  exact key

/-- Part 1: the own barrier, then ready signals 0 to 3. -/
theorem run_part1 (K : Names) (c : Dev nD) {Kt : _ → sProp 𝕄} :
    iprop(records m K ∗ levAts L lv ∗ Owe c (O₀ c) ∗ dutyTok ER (barCell c) 0 () ∗ cred (tallyAt (barCell c) () 1) ∗ atPos ER (barCell c) 0 ∅ 0
        ∗ bigSep (Finset.Ico 0 15) fun r => iprop(dutyTok ER (readyCell (tgt c r) c) 0 () ∗ ∃ f, slotPts (F := F) fullShare c (tgt c r) f))
      ⊢ iprop((∀ v : BitVec 32, atPos ER (barCell c) 1 ∅ 0 -∗ sigSt c 4 -∗ Kt ⟨c, v⟩)
          -∗ Run c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3) Kt) := by
  rw [k0_part1_eq_skeleton]; unfold k0_part1_skel
  simp only [semSignalWord, semWaitWord, semSignalHereWord, Prog.lift, Prog.bind_op, Prog.bind_ret, Prog.pure_eq_ret]
  unfold Run
  rw [wp_deviceId, wp_deviceId]
  iintro ⟨#HR, #Hlev, HO, Ht, Hc, Hat, Hs⟩ Hk
  iapply (step_bar_signal m K c rfl rfl rfl) $$ [HO Ht]
  · isplitr; · iexact HR
    isplitl [HO]; · iexact HO
    iexact Ht
  iintro HO
  iapply (step_bar_wait m K c rfl rfl) $$ [HO Hc Hat]
  · isplitr; · iexact HR
    isplitr; · iexact Hlev
    isplitl [HO]; · iexact HO
    isplitl [Hc]; · iexact Hc
    iexact Hat
  iintro ⟨HO, Hat⟩
  ihave H : sigSt c 0 $$ [HO Hs]
  · unfold sigSt
    isplitl [HO]; · iexact HO
    iexact Hs
  iapply (step_sig m K c (n := 0) (by decide) (tgt_of (k0_dev1_eq c)) (ready_of rfl) rfl) $$ [H]
  · isplitr; · iexact HR
    iexact H
  iintro H
  iapply (step_sig m K c (n := 1) (by decide) (tgt_of (k0_dev2_eq c)) (ready_of rfl) rfl) $$ [H]
  · isplitr; · iexact HR
    iexact H
  iintro H
  iapply (step_sig m K c (n := 2) (by decide) (tgt_of (k0_dev3_eq c)) (ready_of rfl) rfl) $$ [H]
  · isplitr; · iexact HR
    iexact H
  iintro H
  iapply (step_sig m K c (n := 3) (by decide) (tgt_of (k0_dev4_eq c)) (ready_of rfl) rfl) $$ [H]
  · isplitr; · iexact HR
    iexact H
  iintro H
  iapply (run_ret c)
  ispecialize Hk $$ %_
  ispecialize Hk $$ Hat
  iapply Hk; iexact H

/-- Part 4: the last ready signal; the blocks of Q, K and V are loaded. -/
theorem run_part4 (K : Names) (c : Dev nD) {v2 : BitVec 32} (f : Buf (Elt F) ((c : Thread nD τ).loc cc0_scratch0)) {Kt : _ → sProp 𝕄} :
    iprop(records m K ∗ sigSt c 14 ∗ hold c cc0_stg0_0 (xq m c) ∗ hold c cc0_stg1_0 (xk m c) ∗ hold c cc0_stg2_0 (xv m c) ∗ slotPts fullShare c c f)
      ⊢ iprop((Owe c (OV c 0) -∗ hold c cc0_stg0_0 (xq m c) -∗ hold c cc0_stg1_0 (xk m c) -∗ hold c cc0_stg2_0 (xv m c) -∗ slotPts fullShare c c f
            -∗ Kt ⟨k0_pay2 (xq m c) (xk m c), k0_pay3 (xq m c) (xk m c) (xv m c)⟩)
          -∗ Run c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2) Kt) := by
  rw [k0_part4_eq_skeleton]; unfold k0_part4_skel
  simp only [semSignalWord, semWaitWord, semSignalHereWord, Prog.lift, Prog.bind_op, Prog.bind_ret, Prog.pure_eq_ret]
  iintro ⟨#HR, H, H0, H1, H2, Hs⟩ Hk
  iapply (step_sig m K c (n := 14) (by decide) (tgt_of (k0_dev15_eq c)) (ready_of rfl) rfl) $$ [H]
  · isplitr; · iexact HR
    iexact H
  iintro H
  iapply (load_q c _) $$ H0; iintro H0
  iapply (load_k c _) $$ H1; iintro H1
  iapply (load_v c _) $$ H2; iintro H2
  unfold slotPts
  iapply (wp_load 𝒱₀ (c : Thread nD τ) none Set.univ (m := slotM c) (S := slotSet c) (q := fullShare) (f := f) (sub_own (s' := S9x8x64) c _)) $$ Hs; iintro Hs
  iapply (run_ret c)
  ihave H := (sig_done c) $$ H
  ispecialize Hk $$ H
  ispecialize Hk $$ H0
  ispecialize Hk $$ H1
  ispecialize Hk $$ H2
  iapply Hk; iexact Hs

/-- What the copies out need, before the own slot is stored. -/
def exIn (c : Dev nD) : sProp 𝕄 :=
  iprop((bigSep (Finset.Ico 0 15) fun r => iprop(cred (tallyAt (readyCell c (tgt c r)) () 1) ∗ atPos ER (readyCell c (tgt c r)) 0 ∅ 0))
    ∗ (bigSep (Finset.Ico 0 15) fun r => iprop(dutyTok ER (sendCell c r) 0 () ∗ dutyTok ER (recvCell (tgt c r) c) 0 ())))

omit [FloatOps F] in
/-- Two conjunctions over the same indices are one of pairs. -/
theorem zip_sep {I : Type} {S : Finset I} {Φ Ψ : I → sProp 𝕄} : iprop(bigSep S Φ ∗ bigSep S Ψ) ⊢ bigSep S fun i => iprop(Φ i ∗ Ψ i) :=
  Entails.of_eq (bigSep_sep' S Φ Ψ).symm
omit [FloatOps F] in
/-- A conjunction of pairs is a pair of conjunctions. -/
theorem unzip_sep {I : Type} {S : Finset I} {Φ Ψ : I → sProp 𝕄} : (bigSep S fun i => iprop(Φ i ∗ Ψ i)) ⊢ iprop(bigSep S Φ ∗ bigSep S Ψ) :=
  Entails.of_eq (bigSep_sep' S Φ Ψ)

/-- The own slot stored, its shares for the fifteen copies are set apart. -/
theorem ex_start (c : Dev nD) (fs : Buf (Elt F) ((c : Thread nD τ).loc cc0_scratch0)) :
    iprop(Owe c (OV c 0) ∗ exIn c ∗ slotPts fullShare c c fs) ⊢ (iprop(exSt c fs 0 0 ∗ slotPts (shareDrop fullShare 15) c c fs) : sProp 𝕄) := by
  unfold exSt exIn
  iintro ⟨HO, ⟨H1, H2⟩, Hs⟩
  unfold slotPts
  ihave Hs := (pointsTo_toks_range fullShare 15).1 $$ Hs
  icases Hs with ⟨Hd, Hs⟩
  isplitr [Hd]
  · isplitl [HO]; · iexact HO
    isplitl [H1]; · iexact H1
    isplitr; · rw [Finset.range_zero, bigSep_empty]; iempintro
    isplitr; · rw [Finset.Ico_self, bigSep_empty]; iempintro
    isplitl [H2 Hs]
    · rw [Finset.range_eq_Ico]
      iapply (zip_sep (F := F))
      isplitl [Hs]; · iexact Hs
      iexact H2
    rw [Finset.range_zero, bigSep_empty]; iempintro
  iexact Hd

/-- Part 5: the own slot is stored; the first copy goes out. -/
theorem run_part5 (K : Names) (c : Dev nD) {v2 : BitVec 32} (f : Buf (Elt F) ((c : Thread nD τ).loc cc0_scratch0)) {Kt : _ → sProp 𝕄} :
    iprop(records m K ∗ levAts L lv ∗ Owe c (OV c 0) ∗ exIn c ∗ slotPts fullShare c c f)
      ⊢ iprop((exSt c (stored m c f) 2 1 -∗ slotPts (shareDrop fullShare 15) c c (stored m c f) -∗ Kt ⟨⟩)
          -∗ Run c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2 (k0_pay2 (xq m c) (xk m c)) (k0_pay3 (xq m c) (xk m c) (xv m c))) Kt) := by
  have hg := good_stored m c f
  generalize hfs : stored m c f = fs at hg
  rw [k0_part5_eq_skeleton]; unfold k0_part5_skel
  simp only [semSignalWord, semWaitWord, semSignalHereWord, Prog.lift, Prog.bind_op, Prog.bind_ret, Prog.pure_eq_ret]
  iintro ⟨#HR, #Hlev, HO, HX, Hs⟩ Hk
  unfold slotPts
  iapply (wp_store 𝒱₀ (c : Thread nD τ) none Set.univ (m := cM) (r := rect3 c) (w := val4 m c) (Mk := Finset.univ) (S := slotSet c) (f := f) (rect3_sub c)) $$ Hs; iintro Hs
  iapply (wp_load 𝒱₀ (c : Thread nD τ) none Set.univ (m := slotM c) (S := slotSet c) (q := fullShare) (sub_own (s' := S9x8x64) c _)) $$ Hs; iintro Hs
  iapply (wp_store 𝒱₀ (c : Thread nD τ) none Set.univ (m := cM) (r := rect4 c) (w := val5 m c) (Mk := Finset.univ) (S := slotSet c) (rect4_sub c)) $$ Hs; iintro Hs
  ihave Hx := (ex_start c fs) $$ [HO HX Hs]
  · isplitl [HO]; · iexact HO
    isplitl [HX]; · iexact HX
    subst hfs
    unfold slotPts stored
    iexact Hs
  icases Hx with ⟨H, Hd⟩
  iapply (step_ready m K c fs (n := 0) (by decide) (ready_of (off5_tgt c ⟨0, by decide⟩)) rfl) $$ [H]
  · isplitr; · iexact HR
    isplitr; · iexact Hlev
    iexact H
  iintro H
  iapply (step_send m K c fs hg (n := 0) (by decide) (tgt_of (k0_dev16_eq c)) (send_of ⟨0, by decide⟩) (recv_of rfl)) $$ [H]
  · isplitr; · iexact HR
    iexact H
  iintro H
  iapply (step_ready m K c fs (n := 1) (by decide) (ready_of (off5_tgt c ⟨1, by decide⟩)) rfl) $$ [H]
  · isplitr; · iexact HR
    isplitr; · iexact Hlev
    iexact H
  iintro H
  iapply (run_ret c)
  ispecialize Hk $$ H
  iapply Hk
  unfold slotPts
  iexact Hd

/-- The load of the own slot: the own partial sums on every lane written. -/
theorem load_own (c : Dev nD) (fs : Buf (Elt F) ((c : Thread nD τ).loc cc0_scratch0)) (hg : Good m c fs) {q : PosShare TreeShare} {off : Fin 4 → Nat}
    {hin : ∀ a, off a + S1x9x8x64.size a ≤ S16x9x8x64.size a} (ho : off = k0_off2 c)
    {hl : cM.view.LoadsAt (Rect.unit (s := S16x9x8x64) off S1x9x8x64.size hin).toLoadRect}
    {α : Type} {Q : α → sProp 𝕄} {k : Vec F S1x9x8x64 .bf16 → Prog (TpuEff nD τ sig (Elt F) Λ₀ .tc) α} :
    slotPts q c c fs
      ⊢ iprop((∀ x : Vec F S1x9x8x64 .bf16, ⌜Got m c x⌝ -∗ slotPts q c c fs -∗ Run c (k x) Q)
          -∗ Run c (.op (.load cM (Rect.unit (s := S16x9x8x64) off S1x9x8x64.size hin).toLoadRect hl) k) Q) := by
  subst ho
  iintro Hs Hk
  iapply (wp_load_rect 𝒱₀ (c : Thread nD τ) none Set.univ (m := cM) (r := slotR c) (S := slotSet c) (q := q) (f := fs) (by rw [slot_set'])) $$ [Hs]
  · unfold slotPts; iexact Hs
  iintro Hs
  ispecialize Hk $$ %((cM.access (slotR c)).read (Elt F) fs)
  ispecialize Hk $$ %hg
  iapply Hk
  unfold slotPts; iexact Hs

/-- Part 12: the last two copies go out; the own slot is loaded. -/
theorem run_part12 (K : Names) (c : Dev nD) {v2 : BitVec 32} (fs : Buf (Elt F) ((c : Thread nD τ).loc cc0_scratch0)) (hg : Good m c fs) {Kt : _ → sProp 𝕄} :
    iprop(records m K ∗ levAts L lv ∗ exSt c fs 14 13 ∗ slotPts (shareDrop fullShare 15) c c fs)
      ⊢ iprop((∀ x0, ∀ v, ⌜Got m c x0⌝ -∗ exSt c fs 15 15 -∗ slotPts (shareDrop fullShare 15) c c fs -∗ Kt ⟨k0_pay6 x0, v⟩)
          -∗ Run c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2) Kt) := by
  rw [k0_part12_eq_skeleton]; unfold k0_part12_skel
  simp only [semSignalWord, semWaitWord, semSignalHereWord, Prog.lift, Prog.bind_op, Prog.bind_ret, Prog.pure_eq_ret]
  iintro ⟨#HR, #Hlev, H, Hd⟩ Hk
  iapply (step_send m K c fs hg (n := 13) (by decide) (tgt_of (k0_dev29_eq c)) (send_of ⟨13, by decide⟩) (recv_of rfl)) $$ [H]
  · isplitr; · iexact HR
    iexact H
  iintro H
  iapply (step_ready m K c fs (n := 14) (by decide) (ready_of (off5_tgt c ⟨14, by decide⟩)) rfl) $$ [H]
  · isplitr; · iexact HR
    isplitr; · iexact Hlev
    iexact H
  iintro H
  iapply (step_send m K c fs hg (n := 14) (by decide) (tgt_of (k0_dev30_eq c)) (send_of ⟨14, by decide⟩) (recv_of rfl)) $$ [H]
  · isplitr; · iexact HR
    iexact H
  iintro H
  iapply (load_own m c fs hg (off6_own c)) $$ Hd
  iintro %x0 %hx0 Hd
  iapply (run_ret c)
  ispecialize Hk $$ %x0
  ispecialize Hk $$ %_
  ispecialize Hk $$ %hx0
  ispecialize Hk $$ H
  iapply Hk
  iexact Hd

/-- Part 20: the slots of the last two steps; the result is stored. -/
theorem run_part20 (K : Names) (c : Dev nD) {v2 : BitVec 32} {va : FVec F S9x8x64 .f32} (g : (cc0_stg3_0 : Ref sig .tc).ty.Contents (Elt F)) {Kt : _ → sProp 𝕄} :
    iprop(records m K ∗ rcSt m c 14 13 ∗ hold c cc0_stg3_0 g)
      ⊢ iprop((∀ x13 x14, ⌜Got m (src c 13) x13⌝ -∗ ⌜Got m (src c 14) x14⌝ -∗ rcSt m c 15 15 -∗ hold c cc0_stg3_0 (k0_pay14 va x13 x14) -∗ Kt ⟨⟩)
          -∗ Run c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3 c v2 va) Kt) := by
  rw [k0_part20_eq_skeleton]; unfold k0_part20_skel
  simp only [semSignalWord, semWaitWord, semSignalHereWord, Prog.lift, Prog.bind_op, Prog.bind_ret, Prog.pure_eq_ret]
  iintro ⟨#HR, H, Ho⟩ Hk
  iapply (step_load m c (n := 14) (n' := 13) (by decide) (off9_src c ⟨13, of_decide_eq_true rfl⟩)) $$ [H]
  · iexact H
  iintro %x13 %hx13 H
  iapply (step_recv m K c (n := 14) (n' := 14) (by decide) (by decide) (recv_of (off7_src c ⟨14, of_decide_eq_true rfl⟩)) credit_slice) $$ [H]
  · isplitr; · iexact HR
    iexact H
  iintro H
  iapply (step_load m c (n := 15) (n' := 14) (by decide) (off9_src c ⟨14, of_decide_eq_true rfl⟩)) $$ [H]
  · iexact H
  iintro %x14 %hx14 H
  iapply (load_o c _) $$ Ho; iintro Ho
  iapply (store_o c _) $$ Ho; iintro Ho
  iapply (run_ret c)
  ispecialize Hk $$ %x13
  ispecialize Hk $$ %x14
  ispecialize Hk $$ %hx13
  ispecialize Hk $$ %hx14
  ispecialize Hk $$ H
  iapply Hk
  iexact Ho

end Cert.Exchange

end
-- ==== Proof.Out.lean ====
/-
# What a device stores as the result, from the slots it loads

The sixteen slots are added up, the own one first, and the first eight rows are divided by the ninth. Only the
lanes of a slot that are written matter.
-/
module

public import proofs.«01_k».proof.Proof.Slots
public import Idealize.ShloMosaic.Lib.Pipeline.Value

@[expose] public section

noncomputable section

namespace Cert.Exchange

open Cert.KernelIdeal Cert.KernelIdeal.Gen
open Idealize.ShloMosaic
open Idealize.ShloMosaic.TcCoe
open Idealize.ShloMosaic.ValueIdx

variable {F : FTy → Type} [FloatOps F]

/-- The result from the own slot `x0` and the slots `x 0`, …, `x 14` of the fifteen steps. -/
def outOf (x0 : Vec F S1x9x8x64 .bf16) (x : ℕ → Vec F S1x9x8x64 .bf16) : Vec F S8x1x8x64 .f32 :=
  k0_pay14 (k0_pay13 (k0_pay12 (k0_pay11 (k0_pay10 (k0_pay9 (k0_pay8 (k0_pay7 (k0_pay6 x0) (x 0) (x 1)) (x 2) (x 3)) (x 4) (x 5)) (x 6) (x 7))
    (x 8) (x 9)) (x 10)) (x 11) (x 12)) (x 13) (x 14)

/-- The lanes of the sum that are read. -/
def UsedS (i : S9x8x64.Idx) : Prop := (i 0).val < 8 ∨ (i 2).val < 8

/-- The lane of a slot that a lane of the sum reads. -/
theorem pay6_apply (x : Vec F S1x9x8x64 .bf16) (i : S9x8x64.Idx) :
    k0_pay6 x i = FloatOps.extf (φ := .bf16) .f32 (by decide) (x (ix4 0 (i 0) (i 1) (i 2))) := by
  show FloatOps.extf (φ := .bf16) .f32 _ (shapeCast S9x8x64 x shapeCasts_S1x9x8x64_S9x8x64 i) = _
  congr 1
  refine (shapeCast_dropUnit_apply ![9, 8, 64] x shapeCasts_S1x9x8x64_S9x8x64 i).trans (congrArg x ?_)
  funext a; fin_cases a <;> rfl

/-- Sum number `n` at a lane: the own slot and the slots of the first `n` steps. -/
def sumAt (x0 : Vec F S1x9x8x64 .bf16) (x : ℕ → Vec F S1x9x8x64 .bf16) (i : S9x8x64.Idx) : ℕ → F .f32
  | 0 => k0_pay6 x0 i
  | n + 1 => FloatOps.addf (sumAt x0 x i n) (k0_pay6 (x n) i)

theorem sumAt_congr {x0 y0 : Vec F S1x9x8x64 .bf16} {x y : ℕ → Vec F S1x9x8x64 .bf16} {i : S9x8x64.Idx} (n : ℕ)
    (h0 : k0_pay6 x0 i = k0_pay6 y0 i) (h : ∀ r < n, k0_pay6 (x r) i = k0_pay6 (y r) i) : sumAt x0 x i n = sumAt y0 y i n := by
  induction n with
  | zero => exact h0
  | succ n ih => unfold sumAt; rw [ih fun r hr => h r (Nat.lt_succ_of_lt hr), h n (Nat.lt_succ_self n)]

/-- The quotient of the first eight rows by the ninth. -/
def fin (z : FVec F S9x8x64 .f32) : Vec F S8x1x8x64 .f32 :=
  shapeCast S8x1x8x64 (divf (extractStridedSlice S8x8x64 ![0, 0, 0] z slices_S9x8x64_o0_0_0_S8x8x64)
    (broadcastTo S8x8x64 (shapeCast S8x8x1 (shapeCast S8x8 (extractStridedSlice S1x8x8 ![8, 0, 0] z slices_S9x8x64_o8_0_0_S1x8x8)
      shapeCasts_S1x8x8_S8x8) shapeCasts_S8x8_S8x8x1) broadcasts_S8x8x1_S8x8x64)) shapeCasts_S8x8x64_S8x1x8x64

theorem outOf_eq_fin (x0 : Vec F S1x9x8x64 .bf16) (x : ℕ → Vec F S1x9x8x64 .bf16) : outOf x0 x = fin (fun i => sumAt x0 x i 15) := rfl

theorem fin_apply (z : FVec F S9x8x64 .f32) (b : Fin 8) (h : Fin 8) (d : Fin 64) :
    fin z (ix4 b 0 h d) = FloatOps.divf (z (ix3 (Fin.castLE (by decide) b) h d)) (z (ix3 8 b (Fin.castLE (by decide) h))) := by
  unfold fin
  rw [shapeCast_apply _ shapeCasts_S8x8x64_S8x1x8x64 (ix4 b 0 h d) (ix3 b h d)
    (by rw [Shape.rowMajor_val_three, Shape.rowMajor_val_four]; simp)]
  show FloatOps.divf _ _ = _
  congr 1
  · refine extractStridedSlice_apply _ z _ _ _ ?_
    intro a; fin_cases a <;> simp
  · rw [broadcastTo_apply _ broadcasts_S8x8x1_S8x8x64 (ix3 b h d) (ix3 b h 0) (by intro a; fin_cases a <;> rfl),
      shapeCast_apply _ shapeCasts_S8x8_S8x8x1 (ix3 b h 0) (ix2 b h) (by rw [Shape.rowMajor_val_three, Shape.rowMajor_val_two]; simp),
      shapeCast_apply _ shapeCasts_S1x8x8_S8x8 (ix2 b h) (ix3 0 b h) (by rw [Shape.rowMajor_val_three, Shape.rowMajor_val_two]; simp)]
    refine extractStridedSlice_apply _ z _ _ _ ?_
    intro a; fin_cases a <;> simp

theorem outOf_apply (x0 : Vec F S1x9x8x64 .bf16) (x : ℕ → Vec F S1x9x8x64 .bf16) (b : Fin 8) (h : Fin 8) (d : Fin 64) :
    outOf x0 x (ix4 b 0 h d) = FloatOps.divf (sumAt x0 x (ix3 (Fin.castLE (by decide) b) h d) 15) (sumAt x0 x (ix3 8 b (Fin.castLE (by decide) h)) 15) := by
  rw [outOf_eq_fin, fin_apply]

/-- The result depends only on the lanes that are written. -/
theorem outOf_congr {x0 y0 : Vec F S1x9x8x64 .bf16} {x y : ℕ → Vec F S1x9x8x64 .bf16}
    (h0 : ∀ j, Used j → x0 j = y0 j) (h : ∀ r < 15, ∀ j, Used j → x r j = y r j) : outOf x0 x = outOf y0 y := by
  have key : ∀ i : S9x8x64.Idx, UsedS i → (sumAt x0 x i 15 : F .f32) = sumAt y0 y i 15 := fun i hi => by
    refine sumAt_congr 15 ?_ fun r hr => ?_
    · rw [pay6_apply, pay6_apply, h0 (ix4 0 (i 0) (i 1) (i 2)) hi]
    · rw [pay6_apply, pay6_apply, h r hr (ix4 0 (i 0) (i 1) (i 2)) hi]
  funext j
  have hj : j = ix4 (j 0) 0 (j 2) (j 3) := by
    refine (eq_ix4 j).trans ?_
    have h1 : j 1 = (0 : Fin 1) := Subsingleton.elim (α := Fin 1) _ _
    exact congrArg (fun a => ix4 (j 0) a (j 2) (j 3)) h1
  rw [hj]
  refine (outOf_apply x0 x (j 0) (j 2) (j 3)).trans (Eq.trans ?_ (outOf_apply y0 y (j 0) (j 2) (j 3)).symm)
  rw [key _ (Or.inl (j 0).isLt), key _ (Or.inr (j 2).isLt)]

end Cert.Exchange

end
-- ==== Proof.Chain.lean ====
/-
# A device's whole program

The parts run one after the other; what a device holds before and after.
-/
module

public import proofs.«01_k».proof.Proof.PartsA
public import proofs.«01_k».proof.Proof.PartsC
public import proofs.«01_k».proof.Proof.Out

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ)

/-- The result device `c` stores. -/
def outAt (c : Dev nD) : Vec F S8x1x8x64 .f32 := outOf (slotVal m c) fun r => slotVal m (src c r)

theorem got_out {c : Dev nD} {a x0 x1 x2 x3 x4 x5 x6 x7 x8 x9 x10 x11 x12 x13 x14 : Vec F S1x9x8x64 .bf16} (ha : Got m c a)
    (h0 : Got m (src c 0) x0) (h1 : Got m (src c 1) x1) (h2 : Got m (src c 2) x2) (h3 : Got m (src c 3) x3) (h4 : Got m (src c 4) x4)
    (h5 : Got m (src c 5) x5) (h6 : Got m (src c 6) x6) (h7 : Got m (src c 7) x7) (h8 : Got m (src c 8) x8) (h9 : Got m (src c 9) x9)
    (h10 : Got m (src c 10) x10) (h11 : Got m (src c 11) x11) (h12 : Got m (src c 12) x12) (h13 : Got m (src c 13) x13) (h14 : Got m (src c 14) x14) :
    k0_pay14 (k0_pay13 (k0_pay12 (k0_pay11 (k0_pay10 (k0_pay9 (k0_pay8 (k0_pay7 (k0_pay6 a) x0 x1) x2 x3) x4 x5) x6 x7) x8 x9) x10) x11 x12) x13 x14
      = outAt m c := by
  have key : outOf a (fun r => [x0, x1, x2, x3, x4, x5, x6, x7, x8, x9, x10, x11, x12, x13, x14].getD r a) = outAt m c :=
    outOf_congr ha fun r hr => by
      interval_cases r
      · exact h0
      · exact h1
      · exact h2
      · exact h3
      · exact h4
      · exact h5
      · exact h6
      · exact h7
      · exact h8
      · exact h9
      · exact h10
      · exact h11
      · exact h12
      · exact h13
      · exact h14
  exact key

/-! ## Between the phases -/

theorem ex_done (c : Dev nD) (fs : Buf (Elt F) ((c : Thread nD τ).loc cc0_scratch0)) :
    exSt c fs 15 15 ⊢ (iprop(Owe c 0 ∗ (bigSep (Finset.range 15) fun r => atPos ER (readyCell c (tgt c r)) 1 ∅ 0)
      ∗ bigSep (Finset.range 15) fun r => cred (tallyAt (sendCell c r) () N)) : sProp 𝕄) := by
  unfold exSt
  rw [OV_end]
  iintro ⟨HO, -, Ha, -, -, Hc⟩
  isplitl [HO]; · iexact HO
  isplitl [Ha]; · iexact Ha
  iexact Hc

theorem rc_start (c : Dev nD) :
    iprop(Owe c 0 ∗ bigSep (Finset.Ico 0 15) fun r => iprop(cred (tallyAt (recvCell c (src c r)) () N) ∗ atPos ER (recvCell c (src c r)) 0 ∅ 0))
      ⊢ (rcSt m c 0 0 : sProp 𝕄) := by
  unfold rcSt
  iintro ⟨HO, Hc⟩
  isplitl [HO]; · iexact HO
  isplitl [Hc]; · iexact Hc
  isplitr; · rw [Finset.range_zero, bigSep_empty]; iempintro
  isplitr; · rw [Finset.Ico_self, bigSep_empty]; iempintro
  rw [Finset.range_zero, bigSep_empty]; iempintro

theorem rc_done (c : Dev nD) :
    rcSt m c 15 15 ⊢ (iprop(Owe c 0 ∗ (bigSep (Finset.range 15) fun r => atPos ER (recvCell c (src c r)) 1 ∅ 0)
      ∗ bigSep (Finset.range 15) fun r => iprop(∃ f, slotPts (F := F) fullShare c (src c r) f)) : sProp 𝕄) := by
  unfold rcSt
  iintro ⟨HO, -, Ha, -, Hs⟩
  isplitl [HO]; · iexact HO
  isplitl [Ha]; · iexact Ha
  iexact Hs

theorem sd_start (c : Dev nD) :
    iprop(Owe c 0 ∗ (bigSep (Finset.range 15) fun r => cred (tallyAt (sendCell c r) () N)) ∗ bigSep (Finset.range 15) fun r => atPos ER (sendCell c r) 0 ∅ 0)
      ⊢ (sdSt c 0 : sProp 𝕄) := by
  unfold sdSt
  rw [Finset.range_eq_Ico]
  iintro ⟨HO, Hc, Ha⟩
  isplitl [HO]; · iexact HO
  isplitl [Hc Ha]
  · iapply (zip_sep (F := F))
    isplitl [Hc]; · iexact Hc
    iexact Ha
  rw [Finset.range_zero, bigSep_empty]; iempintro

theorem sd_done (c : Dev nD) :
    sdSt c 15 ⊢ (iprop(Owe c 0 ∗ (bigSep (Finset.range 15) fun r => atPos ER (sendCell c r) 1 ∅ 0)
      ∗ bigSep (Finset.range 15) fun r => iprop(∃ f, slotPts (F := F) (shareTokN fullShare r) c c f)) : sProp 𝕄) := by
  unfold sdSt
  iintro ⟨HO, -, Ha⟩
  isplitl [HO]; · iexact HO
  iapply (unzip_sep (F := F))
  iexact Ha

/-! ## The program -/

/-- What device `c` runs from, its own slot holding `f` and its result buffer `g`; -/
def bodyIn (K : Names) (c : Dev nD) (f : Buf (Elt F) ((c : Thread nD τ).loc cc0_scratch0)) (g : (cc0_stg3_0 : Ref sig .tc).ty.Contents (Elt F)) : sProp 𝕄 :=
  iprop(records m K ∗ levAts L lv ∗ Owe c (O₀ c) ∗ dutyTok ER (barCell c) 0 () ∗ cred (tallyAt (barCell c) () 1) ∗ atPos ER (barCell c) 0 ∅ 0
    ∗ (bigSep (Finset.Ico 0 15) fun r => iprop(dutyTok ER (readyCell (tgt c r) c) 0 () ∗ ∃ f, slotPts (F := F) fullShare c (tgt c r) f))
    ∗ exIn c
    ∗ (bigSep (Finset.Ico 0 15) fun r => iprop(cred (tallyAt (recvCell c (src c r)) () N) ∗ atPos ER (recvCell c (src c r)) 0 ∅ 0))
    ∗ (bigSep (Finset.range 15) fun r => atPos ER (sendCell c r) 0 ∅ 0)
    ∗ slotPts fullShare c c f
    ∗ hold c cc0_stg0_0 (xq m c) ∗ hold c cc0_stg1_0 (xk m c) ∗ hold c cc0_stg2_0 (xv m c) ∗ hold c cc0_stg3_0 g)

/-- and what it ends with. -/
def bodyOut (c : Dev nD) (fs : Buf (Elt F) ((c : Thread nD τ).loc cc0_scratch0)) : sProp 𝕄 :=
  iprop(Owe c 0 ∗ atPos ER (barCell c) 1 ∅ 0
    ∗ (bigSep (Finset.range 15) fun r => atPos ER (readyCell c (tgt c r)) 1 ∅ 0)
    ∗ (bigSep (Finset.range 15) fun r => atPos ER (recvCell c (src c r)) 1 ∅ 0)
    ∗ (bigSep (Finset.range 15) fun r => atPos ER (sendCell c r) 1 ∅ 0)
    ∗ (bigSep (Finset.range 15) fun r => iprop(∃ f, slotPts (F := F) fullShare c (src c r) f))
    ∗ slotPts (shareDrop fullShare 15) c c fs
    ∗ (bigSep (Finset.range 15) fun r => iprop(∃ f, slotPts (F := F) (shareTokN fullShare r) c c f))
    ∗ hold c cc0_stg0_0 (xq m c) ∗ hold c cc0_stg1_0 (xk m c) ∗ hold c cc0_stg2_0 (xv m c) ∗ hold c cc0_stg3_0 (outAt m c))

set_option maxHeartbeats 1600000 in
/-- The whole program, part by part. -/
theorem run_program (K : Names) (c : Dev nD) (f : Buf (Elt F) ((c : Thread nD τ).loc cc0_scratch0)) (g : (cc0_stg3_0 : Ref sig .tc).ty.Contents (Elt F))
    {Kt : _ → sProp 𝕄} :
    bodyIn m K c f g
      ⊢ iprop((bodyOut m c (stored m c f) -∗ Kt ⟨⟩)
          -∗ Run c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3) Kt) := by
  rw [k0_part24_eq_skeleton]; unfold k0_part24_skel
  simp only [Prog.lift, Prog.bind_op, Prog.bind_ret, Prog.pure_eq_ret]
  unfold bodyIn
  iintro ⟨#HR, #Hlev, HO, Htb, Hcb, Hab, Hrs, Hx, Hrv, Has, Hs, Hq, Hk, Hv, Ho⟩ HK
  iapply (run_bind c)
  iapply (run_part1 m K c) $$ [HO Htb Hcb Hab Hrs]
  · isplitr; · iexact HR
    isplitr; · iexact Hlev
    isplitl [HO]; · iexact HO
    isplitl [Htb]; · iexact Htb
    isplitl [Hcb]; · iexact Hcb
    isplitl [Hab]; · iexact Hab
    iexact Hrs
  iintro %v2 Hab H
  iapply (run_bind c)
  iapply (run_part2 m K c) $$ [H]
  · isplitr; · iexact HR
    iexact H
  iintro H
  iapply (run_bind c)
  iapply (run_part3 m K c) $$ [H]
  · isplitr; · iexact HR
    iexact H
  iintro H
  iapply (run_bind c)
  iapply (run_part4 m K c f) $$ [H Hq Hk Hv Hs]
  · isplitr; · iexact HR
    isplitl [H]; · iexact H
    isplitl [Hq]; · iexact Hq
    isplitl [Hk]; · iexact Hk
    isplitl [Hv]; · iexact Hv
    iexact Hs
  iintro HO Hq Hk Hv Hs
  iapply (run_bind c)
  iapply (run_part5 m K c f) $$ [HO Hx Hs]
  · isplitr; · iexact HR
    isplitr; · iexact Hlev
    isplitl [HO]; · iexact HO
    isplitl [Hx]; · iexact Hx
    iexact Hs
  iintro H Hs
  iapply (run_bind c)
  iapply (run_part6 m K c (stored m c f) (good_stored m c f)) $$ [H]
  · isplitr; · iexact HR
    isplitr; · iexact Hlev
    iexact H
  iintro H
  iapply (run_bind c)
  iapply (run_part7 m K c (stored m c f) (good_stored m c f)) $$ [H]
  · isplitr; · iexact HR
    isplitr; · iexact Hlev
    iexact H
  iintro H
  iapply (run_bind c)
  iapply (run_part8 m K c (stored m c f) (good_stored m c f)) $$ [H]
  · isplitr; · iexact HR
    isplitr; · iexact Hlev
    iexact H
  iintro H
  iapply (run_bind c)
  iapply (run_part9 m K c (stored m c f) (good_stored m c f)) $$ [H]
  · isplitr; · iexact HR
    isplitr; · iexact Hlev
    iexact H
  iintro H
  iapply (run_bind c)
  iapply (run_part10 m K c (stored m c f) (good_stored m c f)) $$ [H]
  · isplitr; · iexact HR
    isplitr; · iexact Hlev
    iexact H
  iintro H
  iapply (run_bind c)
  iapply (run_part11 m K c (stored m c f) (good_stored m c f)) $$ [H]
  · isplitr; · iexact HR
    isplitr; · iexact Hlev
    iexact H
  iintro H
  iapply (run_bind c)
  iapply (run_part12 m K c (stored m c f) (good_stored m c f)) $$ [H Hs]
  · isplitr; · iexact HR
    isplitr; · iexact Hlev
    isplitl [H]; · iexact H
    iexact Hs
  iintro %a %v343 %ha H Hs
  ihave H := (ex_done c (stored m c f)) $$ H
  icases H with ⟨HO, Har, Hcs⟩
  ihave H := (rc_start m c) $$ [HO Hrv]
  · isplitl [HO]; · iexact HO
    iexact Hrv
  iapply (run_bind c)
  iapply (run_part13 m K c) $$ [H]
  · isplitr; · iexact HR
    iexact H
  iintro %x0 %x1 %w13 %h0 %h1 H
  iapply (run_bind c)
  iapply (run_part14 m K c) $$ [H]
  · isplitr; · iexact HR
    iexact H
  iintro %x2 %x3 %w14 %h2 %h3 H
  iapply (run_bind c)
  iapply (run_part15 m K c) $$ [H]
  · isplitr; · iexact HR
    iexact H
  iintro %x4 %x5 %w15 %u15 %h4 %h5 H
  iapply (run_bind c)
  iapply (run_part16 m K c) $$ [H]
  · isplitr; · iexact HR
    iexact H
  iintro %x6 %x7 %w16 %u16 %h6 %h7 H
  iapply (run_bind c)
  iapply (run_part17 m K c) $$ [H]
  · isplitr; · iexact HR
    iexact H
  iintro %x8 %x9 %w17 %h8 %h9 H
  iapply (run_bind c)
  iapply (run_part18 m K c) $$ [H]
  · isplitr; · iexact HR
    iexact H
  iintro %x10 %x11  %h10 %h11 H
  iapply (run_bind c)
  iapply (run_part19 m K c) $$ [H]
  · isplitr; · iexact HR
    iexact H
  iintro %x12 %h12 H
  iapply (run_bind c)
  iapply (run_part20 m K c g) $$ [H Ho]
  · isplitr; · iexact HR
    isplitl [H]; · iexact H
    iexact Ho
  iintro %x13 %x14 %h13 %h14 H Ho
  ihave H := (rc_done m c) $$ H
  icases H with ⟨HO, Hav, Hsl⟩
  ihave H := (sd_start c) $$ [HO Hcs Has]
  · isplitl [HO]; · iexact HO
    isplitl [Hcs]; · iexact Hcs
    iexact Has
  iapply (run_bind c)
  iapply (run_part21 m K c) $$ [H]
  · isplitr; · iexact HR
    iexact H
  iintro H
  iapply (run_bind c)
  iapply (run_part22 m K c) $$ [H]
  · isplitr; · iexact HR
    iexact H
  iintro H
  iapply (run_bind c)
  iapply (run_part23 m K c) $$ [H]
  · isplitr; · iexact HR
    iexact H
  iintro H
  iapply (step_sent m K c (n := 12) (by decide) (send_of ⟨12, by decide⟩) credit_slice) $$ [H]
  · isplitr; · iexact HR
    iexact H
  iintro H
  iapply (step_sent m K c (n := 13) (by decide) (send_of ⟨13, by decide⟩) credit_slice) $$ [H]
  · isplitr; · iexact HR
    iexact H
  iintro H
  iapply (step_sent m K c (n := 14) (by decide) (send_of ⟨14, by decide⟩) credit_slice) $$ [H]
  · isplitr; · iexact HR
    iexact H
  iintro H
  ihave H := (sd_done c) $$ H
  icases H with ⟨HO, Hae, Hsh⟩
  iapply (run_ret c)
  iapply HK
  unfold bodyOut
  rw [← got_out m ha h0 h1 h2 h3 h4 h5 h6 h7 h8 h9 h10 h11 h12 h13 h14]
  isplitl [HO]; · iexact HO
  isplitl [Hab]; · iexact Hab
  isplitl [Har]; · iexact Har
  isplitl [Hav]; · iexact Hav
  isplitl [Hae]; · iexact Hae
  isplitl [Hsl]; · iexact Hsl
  isplitl [Hs]; · iexact Hs
  isplitl [Hsh]; · iexact Hsh
  isplitl [Hq]; · iexact Hq
  isplitl [Hk]; · iexact Hk
  isplitl [Hv]; · iexact Hv
  iexact Ho

end Cert.Exchange

end
-- ==== Proof.Body.lean ====
/-
# The region's body

What each device holds when its program starts and when it ends, and that the program leads from one to the other:
the counters of all its semaphores are back at zero and its exchange buffer is whole again.
-/
module

public import proofs.«01_k».proof.Proof.Chain
public import proofs.«01_k».proof.Proof.Gen.KernelIdeal.Launch
public import proofs.«01_k».proof.Proof.Gen.KernelIdeal.Points

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

open Idealize.ShloMosaic.Pipeline (Dat Cfg Window BodyObligation cellOf)

variable {F : FTy → Type} [FloatOps F]

local notation "𝕄" => MT nD τ sig Unit (Elt F) ℕ UU ℕ

/-! ## The devices as one device and its fifteen steps -/

theorem tgt_injOn (c : Dev nD) : Set.InjOn (tgt c) (Finset.range 15 : Set ℕ) := fun a ha b hb h => by
  have h1 := congrArg Fin.val h
  have h2 : c.val < 16 := c.isLt
  simp only [Finset.coe_range, Set.mem_Iio] at ha hb
  simp only [tgt] at h1; omega
theorem src_injOn (c : Dev nD) : Set.InjOn (src c) (Finset.range 15 : Set ℕ) := fun a ha b hb h => by
  have h1 := congrArg Fin.val h
  have h2 : c.val < 16 := c.isLt
  simp only [Finset.coe_range, Set.mem_Iio] at ha hb
  simp only [src] at h1; omega

theorem univ_eq_tgt (c : Dev nD) : (Finset.univ : Finset (Dev nD)) = insert c ((Finset.range 15).image (tgt c)) := by
  ext d
  have hc : c.val < 16 := c.isLt
  have hd : d.val < 16 := d.isLt
  simp only [Finset.mem_univ, Finset.mem_insert, Finset.mem_image, Finset.mem_range, true_iff]
  by_cases h : d = c
  · exact Or.inl h
  · have hn : d.val ≠ c.val := fun he => h (Fin.ext he)
    refine Or.inr ⟨(d.val + 15 - c.val) % 16, by omega, Fin.ext ?_⟩
    show (c.val + (d.val + 15 - c.val) % 16 + 1) % 16 = d.val
    omega
theorem univ_eq_src (c : Dev nD) : (Finset.univ : Finset (Dev nD)) = insert c ((Finset.range 15).image (src c)) := by
  ext d
  have hc : c.val < 16 := c.isLt
  have hd : d.val < 16 := d.isLt
  simp only [Finset.mem_univ, Finset.mem_insert, Finset.mem_image, Finset.mem_range, true_iff]
  by_cases h : d = c
  · exact Or.inl h
  · have hn : d.val ≠ c.val := fun he => h (Fin.ext he)
    refine Or.inr ⟨(c.val + 15 - d.val) % 16, by omega, Fin.ext ?_⟩
    show (c.val + 15 - (c.val + 15 - d.val) % 16) % 16 = d.val
    omega

omit [FloatOps F] in
theorem univ_tgt (c : Dev nD) (Φ : Dev nD → sProp 𝕄) : bigSep Finset.univ Φ = iprop(Φ c ∗ bigSep (Finset.range 15) fun r => Φ (tgt c r)) := by
  have hn : c ∉ (Finset.range 15).image (tgt c) := fun h => by
    obtain ⟨r, hr, he⟩ := Finset.mem_image.mp h
    exact tgt_ne c (Finset.mem_range.mp hr) he
  rw [univ_eq_tgt c, bigSep_insert hn, bigSep_image_of_injOn (tgt_injOn c)]
  rfl
omit [FloatOps F] in
theorem univ_src (c : Dev nD) (Φ : Dev nD → sProp 𝕄) : bigSep Finset.univ Φ = iprop(Φ c ∗ bigSep (Finset.range 15) fun r => Φ (src c r)) := by
  have hn : c ∉ (Finset.range 15).image (src c) := fun h => by
    obtain ⟨r, hr, he⟩ := Finset.mem_image.mp h
    exact src_ne c (Finset.mem_range.mp hr) he
  rw [univ_eq_src c, bigSep_insert hn, bigSep_image_of_injOn (src_injOn c)]
  rfl
omit [FloatOps F] in
theorem univ_fin (Φ : ℕ → sProp 𝕄) : (bigSep Finset.univ fun k : Fin 15 => Φ k.val) = bigSep (Finset.range 15) Φ := by
  rw [← Fin.map_valEmbedding_univ.trans (Nat.Iio_eq_range 15), bigSep_map]; rfl

omit [FloatOps F] in
/-- A conjunction over a device's semaphores, kind by kind, the own ones apart. -/
theorem cix_split (c : Dev nD) (Φ : GSem nD τ sig → sProp 𝕄) :
    (bigSep Finset.univ fun i : CIx => Φ (kcell (c, i)))
      = iprop((((Φ (readyCell c c) ∗ bigSep (Finset.range 15) fun r => Φ (readyCell c (tgt c r)))
          ∗ ((Φ (recvCell c c) ∗ bigSep (Finset.range 15) fun r => Φ (recvCell c (src c r)))
            ∗ (bigSep (Finset.range 15) fun r => Φ (sendCell c r))))) ∗ Φ (barCell c)) := by
  rw [bigSep_univ_sum, bigSep_univ_sum, bigSep_univ_sum, bigSep_univ_of_subsingleton ()]
  rw [← univ_tgt c (fun t => Φ (readyCell c t)), ← univ_src c (fun t => Φ (recvCell c t)), ← univ_fin (fun r => Φ (sendCell c r))]
  rfl

omit [FloatOps F] in
theorem each {I : Type} {S : Finset I} {Φ Ψ : I → sProp 𝕄} (h : ∀ i ∈ S, Φ i ⊢ Ψ i) : (bigSep S Φ : sProp 𝕄) ⊢ bigSep S Ψ := bigSep_mono h

variable (m : (ℓ : Loc nD τ sig) → Buf (Elt F) ℓ)

/-! ## What a device starts from -/

/-- The duty tokens device `c` pays with. -/
def payToks (c : Dev nD) : sProp 𝕄 :=
  iprop(dutyTok ER (barCell c) 0 ()
    ∗ (bigSep (Finset.range 15) fun r => dutyTok ER (readyCell (tgt c r) c) 0 ())
    ∗ (bigSep (Finset.range 15) fun r => dutyTok ER (sendCell c r) 0 ())
    ∗ (bigSep (Finset.range 15) fun r => dutyTok ER (recvCell (tgt c r) c) 0 ()))
/-- Its positions on its own semaphores, and those tokens. -/
def linear (c : Dev nD) : sProp 𝕄 :=
  iprop((bigSep Finset.univ fun i : CIx => atPos ER (kcell (c, i)) 0 ∅ 0) ∗ payToks c)
/-- The credits it waits with. -/
def credits (c : Dev nD) : sProp 𝕄 :=
  iprop(cred (tallyAt (barCell c) () 1)
    ∗ (bigSep (Finset.range 15) fun r => cred (tallyAt (readyCell c (tgt c r)) () 1))
    ∗ (bigSep (Finset.range 15) fun r => cred (tallyAt (recvCell c (src c r)) () N)))

def start (c : Dev nD) : sProp 𝕄 := iprop((∃ K, records m K ∗ linear c) ∗ credits c ∗ levAts L lv)

abbrev someBuf (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m c ∗ someBuf c)
/-- After the program: every counter at zero, and the exchange buffer whole. -/
def Φ₁ (c : Dev nD) : sProp 𝕄 := iprop((bigSep Finset.univ fun i : CIx => semVal (kcell (c, i)) 0) ∗ someBuf (F := F) c)

/-- The two positions a device never uses. -/
def spare (c : Dev nD) : sProp 𝕄 := iprop(atPos ER (readyCell c c) 0 ∅ 0 ∗ atPos ER (recvCell c c) 0 ∅ 0)

theorem body_start (K : Names) (c : Dev nD) (f : Buf (Elt F) ((c : Thread nD τ).loc cc0_scratch0)) (g : (cc0_stg3_0 : Ref sig .tc).ty.Contents (Elt F)) :
    iprop(records m K ∗ linear c ∗ credits c ∗ levAts L lv ∗ (((c : Thread nD τ).loc cc0_scratch0) ↦{fullShare} f) ∗ Owe c (O₀ c)
        ∗ hold c cc0_stg0_0 (xq m c) ∗ hold c cc0_stg1_0 (xk m c) ∗ hold c cc0_stg2_0 (xv m c) ∗ hold c cc0_stg3_0 g)
      ⊢ iprop(bodyIn m K c f g ∗ spare c) := by
  unfold linear payToks credits bodyIn spare exIn
  rw [cix_split c (fun x => atPos ER x 0 ∅ 0), slots_split, univ_tgt c (fun s => slotPts fullShare c s f), ← Finset.range_eq_Ico]
  iintro ⟨#HR, ⟨⟨⟨⟨Ha0, Har⟩, ⟨Ha1, Hav⟩, Has⟩, Hab⟩, Htb, Htr, Hts, Htv⟩, ⟨Hcb, Hcr, Hcv⟩, Hlev, ⟨Hs0, Hs⟩, HO, Hq, Hk, Hv, Ho⟩
  isplitr [Ha0 Ha1]
  · isplitr; · iexact HR
    isplitl [Hlev]; · iexact Hlev
    isplitl [HO]; · iexact HO
    isplitl [Htb]; · iexact Htb
    isplitl [Hcb]; · iexact Hcb
    isplitl [Hab]; · iexact Hab
    isplitl [Htr Hs]
    · iapply (zip_sep (F := F))
      isplitl [Htr]; · iexact Htr
      iapply (each (S := Finset.range 15) (Φ := fun r => slotPts fullShare c (tgt c r) f) fun r _ => show _ ⊢ (iprop(∃ f, slotPts (F := F) fullShare c (tgt c r) f) : sProp 𝕄) from by
        iintro H; iexists f; iexact H)
      iexact Hs
    isplitl [Hcr Har Hts Htv]
    · isplitl [Hcr Har]
      · iapply (zip_sep (F := F))
        isplitl [Hcr] <;> iassumption
      iapply (zip_sep (F := F))
      isplitl [Hts] <;> iassumption
    isplitl [Hcv Hav]
    · iapply (zip_sep (F := F))
      isplitl [Hcv] <;> iassumption
    isplitl [Has]; · iexact Has
    isplitl [Hs0]; · iexact Hs0
    isplitl [Hq]; · iexact Hq
    isplitl [Hk]; · iexact Hk
    isplitl [Hv]; · iexact Hv
    iexact Ho
  isplitl [Ha0]; · iexact Ha0
  iexact Ha1

/-! ## Closing the semaphores -/

theorem send_at (c : Dev nD) {r : ℕ} (hr : r ∈ Finset.range 15) : kcell (c, .inl (.inr (.inr (Fin.ofNat 15 r)))) = sendCell c r := by
  show ((c : Thread nD τ), SemLoc.dma (sendS (r % 15))) = _
  rw [Nat.mod_eq_of_lt (Finset.mem_range.mp hr)]

/-- A semaphore whose one round is over closes: its counter is at zero. -/
theorem close_at (K : Names) (ci : Dev nD × CIx) {R : ℕ} (hR : ∀ r, R ≤ r → (sched (F := F) m).duties (kcell ci) r = ∅) :
    iprop(records m K ∗ atPos ER (kcell ci) R ∅ 0) ⊢ iprop(|={Set.univ}=> semVal (kcell ci) 0) := by
  iintro ⟨#HR, Hat⟩
  ihave #Hc := (rec_at m K ci) $$ HR
  icases Hc with ⟨#HI, -⟩
  iapply (Rounds.cell_close ER (sched m) (Set.mem_univ (K ci)) (fun h => h) hR)
  isplitr; · iexact HI
  iexact Hat

theorem close_many (K : Names) (S : Finset ℕ) (g : ℕ → Dev nD × CIx) :
    iprop(records m K ∗ bigSep S fun r => atPos ER (kcell (g r)) 1 ∅ 0) ⊢ iprop(|={Set.univ}=> bigSep S fun r => semVal (kcell (g r)) 0) :=
  (BI.bigSep_with_persistent fun r _ => close_at m K (g r) (duties_later m _)).trans (bigSep_fupd _ _)

/-- The sixteen slots and the shares of the own one, all back, make the buffer. -/
theorem buf_back (c : Dev nD) (fs : Buf (Elt F) ((c : Thread nD τ).loc cc0_scratch0)) :
    iprop((bigSep (Finset.range 15) fun r => iprop(∃ f, slotPts (F := F) fullShare c (src c r) f))
        ∗ slotPts (shareDrop fullShare 15) c c fs
        ∗ (bigSep (Finset.range 15) fun r => iprop(∃ f, slotPts (F := F) (shareTokN fullShare r) c c f)))
      ⊢ someBuf (F := F) c := by
  refine BIBase.Entails.trans ?_ (slots_join c)
  rw [univ_src c (fun s => iprop(∃ f, slotPts (F := F) fullShare c s f))]
  iintro ⟨Hs, Hd, Ht⟩
  isplitl [Hd Ht]
  · iexists fs
    iapply (shares_join c c fs)
    isplitl [Hd] <;> iassumption
  iexact Hs

theorem body_end (K : Names) (c : Dev nD) (fs : Buf (Elt F) ((c : Thread nD τ).loc cc0_scratch0)) :
    iprop(records m K ∗ bodyOut m c fs ∗ spare c)
      ⊢ iprop(|={Set.univ}=> (Φ₁ c ∗ Owe c 0 ∗ hold c cc0_stg0_0 (xq m c) ∗ hold c cc0_stg1_0 (xk m c) ∗ hold c cc0_stg2_0 (xv m c) ∗ hold c cc0_stg3_0 (outAt m c))) := by
  unfold bodyOut spare Φ₁
  rw [cix_split c (fun x => semVal x 0)]
  iintro ⟨#HR, ⟨HO, Hab, Har, Hav, Hae, Hsl, Hs, Hsh, Hq, Hk, Hv, Ho⟩, Ha0, Ha1⟩
  imod (close_at m K (c, .inr ()) (R := 1) (duties_later m _)) $$ [Hab] with Zb
  · isplitr; · iexact HR
    iexact Hab
  imod (close_at m K (c, .inl (.inl c)) (R := 0) (duties_dead m (live_ready_self c))) $$ [Ha0] with Z0
  · isplitr; · iexact HR
    iexact Ha0
  imod (close_at m K (c, .inl (.inr (.inl c))) (R := 0) (duties_dead m (live_recv_self c))) $$ [Ha1] with Z1
  · isplitr; · iexact HR
    iexact Ha1
  imod (close_many m K (Finset.range 15) (fun r => (c, .inl (.inl (tgt c r))))) $$ [Har] with Zr
  · isplitr; · iexact HR
    iexact Har
  imod (close_many m K (Finset.range 15) (fun r => (c, .inl (.inr (.inl (src c r)))))) $$ [Hav] with Zv
  · isplitr; · iexact HR
    iexact Hav
  imod (close_many m K (Finset.range 15) (fun r => (c, .inl (.inr (.inr (Fin.ofNat 15 r)))))) $$ [Hae] with Ze
  · isplitr; · iexact HR
    iapply (each (S := Finset.range 15) (Φ := fun r => atPos ER (sendCell c r) 1 ∅ 0) fun r hr => show _ ⊢ (atPos ER (kcell (c, .inl (.inr (.inr (Fin.ofNat 15 r))))) 1 ∅ 0 : sProp 𝕄) from
      Entails.of_eq (by rw [send_at c hr]))
    iexact Hae
  ihave Hb := (buf_back c fs) $$ [Hsl Hs Hsh]
  · isplitl [Hsl]; · iexact Hsl
    isplitl [Hs] <;> iassumption
  imodintro
  isplitr [HO Hq Hk Hv Ho]
  · isplitr [Hb]
    · isplitr [Zb]
      · isplitl [Z0 Zr]
        · isplitl [Z0]; · iexact Z0
          iexact Zr
        isplitl [Z1 Zv]
        · isplitl [Z1]; · iexact Z1
          iexact Zv
        iapply (each (S := Finset.range 15) (Φ := fun r => semVal (kcell (c, .inl (.inr (.inr (Fin.ofNat 15 r))))) 0) fun r hr => show _ ⊢ (semVal (sendCell c r) 0 : sProp 𝕄) from
          Entails.of_eq (by rw [send_at c hr]))
        iexact Ze
      iexact Zb
    iexact Hb
  isplitl [HO]; · iexact HO
  isplitl [Hq]; · iexact Hq
  isplitl [Hk]; · iexact Hk
  isplitl [Hv]; · iexact Hv
  iexact Ho

/-! ## The region's data and its body -/

variable (ρ : Dev nD → PrngReg)

def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xq m c
    | ⟨1, _⟩ => xk m c
    | ⟨2, _⟩ => xv m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ c ∗ (dats m ρ 0 c).owesAt () t0_0.succ
    ∗ stg c cc0_stg0_0 (xq m c) ∗ stg c cc0_stg1_0 (xk m c) ∗ stg c cc0_stg2_0 (xv m c) ∗ stg c cc0_stg3_0 (outAt m c))

/-- The body, from what the pipeline hands it to what it takes back. -/
theorem sound_body (c : Dev nD) :
    bodyPre m ρ c ⊢ Run c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) cc0_scratch1 cc0_scratch2 cc0_scratch3) (fun _ => bodyPost m ρ c) := by
  rw [cc0_body_eq_skeleton]; unfold cc0_body_skel
  unfold bodyPre Φ₀ start
  iintro ⟨⟨⟨⟨%K, #HR, Hlin⟩, Hcr, Hlev⟩, ⟨%f, Hb⟩⟩, Ho, ⟨%d0, %g0, %hg0, Hq⟩, ⟨%d1, %g1, %hg1, Hk⟩, ⟨%d2, %g2, %hg2, Hv⟩, ⟨%d3, %g3, %hg3, Hr⟩⟩
  have e0 : g0 = xq m c := by rw [hg0]; unfold Dat.before; rw [if_pos (fetch0_0 t0_0)]; rfl
  have e1 : g1 = xk m c := by rw [hg1]; unfold Dat.before; rw [if_pos (fetch0_1 t0_0)]; rfl
  have e2 : g2 = xv m c := by rw [hg2]; unfold Dat.before; rw [if_pos (fetch0_2 t0_0)]; rfl
  subst e0 e1 e2
  unfold Dat.owesAt Pipeline.owesWithin
  icases Ho with ⟨%W, %hW, HO⟩
  rw [show (dats m ρ 0 c).owed t0_0.castSucc = O₀ c from rfl]
  ihave H := (body_start m K c f g3) $$ [Hlin Hcr Hlev Hb HO Hq Hk Hv Hr]
  · isplitr; · iexact HR
    isplitl [Hlin]; · iexact Hlin
    isplitl [Hcr]; · iexact Hcr
    isplitl [Hlev]; · iexact Hlev
    isplitl [Hb]; · iexact Hb
    isplitl [HO]; · unfold Owe; iexists W; iexact HO
    isplitl [Hq]; · iexact Hq
    isplitl [Hk]; · iexact Hk
    isplitl [Hv]; · iexact Hv
    iexact Hr
  icases H with ⟨H, Hsp⟩
  iapply (run_bind c)
  iapply (run_program m K c f g3) $$ H
  iintro H
  unfold Run
  imod (body_end m K c (stored m c f)) $$ [H Hsp] with HE
  · isplitr; · iexact HR
    isplitl [H] <;> iassumption
  icases HE with ⟨HP, HO, Hq, Hk, Hv, Ho⟩
  simp only [Prog.pure_eq_ret]
  iapply (run_ret c)
  unfold bodyPost Dat.owesAt Pipeline.owesWithin Owe
  rw [show (dats m ρ 0 c).owed t0_0.succ = 0 from rfl]
  isplitl [HP]; · iexact HP
  isplitl [HO]
  · icases HO with ⟨%W', HO⟩
    iexists W'
    isplitr; · ipureintro; exact fun _ _ => Or.inl trivial
    iexact HO
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  iexists _; isplitr; · (ipureintro; rfl)
  iexact Ho

set_option maxRecDepth 40000 in
/-- The region's obligation on device `c`. -/
theorem body_obligation (c : Dev nD) : BodyObligation (dats (F := F) m ρ 0 c) (defs₀ (F := F)) 𝒱₀ () Set.univ := fun t => by
  obtain rfl : t = t0_0 := fin_N0 t
  rw [bigSep_W, bigSep_W]
  simp only [owns_whole_eq]
  exact sound_body m ρ c

end Cert.Exchange

end
-- ==== Proof.Run.lean ====
/-
# The launch

The counters, tokens and credits every device starts from are dealt out at the launch; the run of the whole mesh follows.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

open Idealize.ShloMosaic.Pipeline (Dat Cfg Window BodyObligation cellOf)

variable {F : FTy → Type} [FloatOps F]

local notation "𝕄" => MT nD τ sig Unit (Elt F) ℕ UU ℕ

/-! ## The cells and the tokens -/

theorem csem_injective : Function.Injective csem := by
  have key : ∀ i : CIx, kindOf (csem i) = match i with
      | .inl (.inl t) => .ready t | .inl (.inr (.inl s)) => .recv s | .inl (.inr (.inr k)) => .send k.val | .inr _ => .bar := by
    rintro ((t | s | k) | u)
    · exact kind_ready t
    · exact kind_recv s
    · exact kind_send k.isLt
    · exact kind_bar
  intro i j h
  have hk := (key i).symm.trans ((congrArg kindOf h).trans (key j))
  rcases i with (t | s | k) | u <;> rcases j with (t' | s' | k') | u' <;> simp only at hk <;> first | (cases hk; done) | skip
  · cases hk; rfl
  · cases hk; rfl
  · injection hk with hk; rw [Fin.ext hk]
  · rfl

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

def allCells : Finset (GSem nD τ sig) := Finset.univ.map ⟨kcell, kcell_injective⟩

/-- The duties a device pays: its barrier's, and one ready, one send and one receive duty per step. -/
abbrev TIx : Type := Unit ⊕ Fin 15 ⊕ Fin 15 ⊕ Fin 15
def paid (c : Dev nD) : TIx → GSem nD τ sig
  | .inl _ => barCell c
  | .inr (.inl r) => readyCell (tgt c r.val) c
  | .inr (.inr (.inl r)) => sendCell c r.val
  | .inr (.inr (.inr r)) => recvCell (tgt c r.val) c
def tokOf (cj : Dev nD × TIx) : GSem nD τ sig × ℕ × Unit := (paid cj.1 cj.2, 0, ())

theorem tgt_fin {c : Dev nD} {r r' : Fin 15} (h : tgt c r.val = tgt c r'.val) : r = r' :=
  Fin.ext (tgt_injOn c (by simp) (by simp) h)

theorem paid_kind (c : Dev nD) (j : TIx) : (kindOf (paid c j).2, (paid c j).1.1) = match j with
    | .inl _ => (.bar, c) | .inr (.inl r) => (.ready c, tgt c r.val) | .inr (.inr (.inl r)) => (.send r.val, c) | .inr (.inr (.inr r)) => (.recv c, tgt c r.val) := by
  rcases j with u | r | r | r
  · exact Prod.ext kind_bar rfl
  · exact Prod.ext (kind_ready c) rfl
  · exact Prod.ext (kind_send r.isLt) rfl
  · exact Prod.ext (kind_recv c) rfl

theorem tokOf_injective : Function.Injective tokOf := by
  rintro ⟨c, j⟩ ⟨c', j'⟩ h
  have hg : paid c j = paid c' j' := congrArg Prod.fst h
  have hk := (paid_kind c j).symm.trans ((congrArg (fun g : GSem nD τ sig => (kindOf g.2, g.1.1)) hg).trans (paid_kind c' j'))
  rcases j with u | r | r | r <;> rcases j' with u' | r' | r' | r' <;> simp only [Prod.mk.injEq] at hk <;> obtain ⟨h1, h2⟩ := hk <;>
    first | (cases h1; done) | skip
  · rw [h2]
  · injection h1 with h1; subst h1; rw [tgt_fin h2]
  · injection h1 with h1; subst h2; rw [Fin.ext h1]
  · injection h1 with h1; subst h1; rw [tgt_fin h2]

def allToks : Finset (GSem nD τ sig × ℕ × Unit) := Finset.univ.map ⟨tokOf, tokOf_injective⟩

def u₀ : UU :=
  (initOf (Pipeline.cells cfgs cellOf_inj) (Pipeline.launchToks cfgs cellOf_inj), initOf allCells allToks)

omit [FloatOps F] in
theorem toks_eq (c : Dev nD) : (bigSep Finset.univ fun j : TIx => (dutyTok ER (tokOf (c, j)).1 (tokOf (c, j)).2.1 (tokOf (c, j)).2.2 : sProp 𝕄)) = payToks c := by
  unfold payToks
  rw [bigSep_univ_sum, bigSep_univ_sum, bigSep_univ_sum, bigSep_univ_of_subsingleton ()]
  rw [← univ_fin (fun r => dutyTok ER (readyCell (tgt c r) c) 0 ()), ← univ_fin (fun r => dutyTok ER (sendCell c r) 0 ()),
    ← univ_fin (fun r => dutyTok ER (recvCell (tgt c r) c) 0 ())]
  rfl

variable (m : (ℓ : Loc nD τ sig) → Buf (Elt F) ℓ) (ρ : Dev nD → PrngReg)

/-- What the launch deals device `c`, -/
def G (c : Dev nD) : sProp 𝕄 :=
  iprop((bigSep Finset.univ fun i : CIx => roundState ER (sched m) (kcell (c, i)) 0)
    ∗ (bigSep Finset.univ fun i : CIx => iprop(atPos ER (kcell (c, i)) 0 ∅ 0 ∗ reached ER (kcell (c, i)) 0)) ∗ payToks c)
/-- and what becomes of it once every cell has its invariant. -/
def G' (c : Dev nD) : sProp 𝕄 := iprop(∃ K, records m K ∗ linear c)

theorem deal : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CIx => Φ (kcell (c, i)) := by
    unfold allCells; rw [bigSep_map, bigSep_univ_prod]; rfl
  have hT : bigSep allToks (fun x => (dutyTok ER x.1 x.2.1 x.2.2 : sProp 𝕄)) = bigSep Finset.univ fun c : Dev nD => payToks c := by
    unfold allToks; rw [bigSep_map, bigSep_univ_prod]
    exact bigSep_congr fun c _ => toks_eq c
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier is the one semaphore outside the region. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems_eq (c : Dev nD) :
    (bigSep Finset.univ fun i : CIx => (semVal (kcell (c, i)) 0 : sProp 𝕄))
      = iprop(Pipeline.ownSems0 (Ix := Unit) (Name := ℕ) (U := UU) (Lvl := ℕ) (Val := Elt F) (τ := τ) osem c ∗ unscopedSems0 c) := by
  rw [unscopedSems0_eq, bigSep_univ_sum, bigSep_univ_of_subsingleton ()]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i => iprop(∃ κ : ℕ, cellInv ER (sched m) κ (kcell (c, i))))
          ∗ (bigSep Finset.univ fun i => iprop(atPos ER (kcell (c, i)) 0 ∅ 0 ∗ reached ER (kcell (c, i)) 0)) ∗ payToks c) := by
  unfold G
  iintro ⟨Hos, Hus, Hst, Hat, Htok⟩
  ihave Hv := (Entails.of_eq (sems_eq (F := F) c).symm) $$ [Hos Hus]
  · isplitl [Hos] <;> iassumption
  imod (show iprop((bigSep Finset.univ fun i : CIx => semVal (kcell (c, i)) 0) ∗ bigSep Finset.univ fun i : CIx => roundState ER (sched m) (kcell (c, i)) 0)
      ⊢ (|={Set.univ}=> bigSep Finset.univ fun i => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun i => iprop(∃ κ : ℕ, cellInv ER (sched m) κ (kcell (c, i))))
          ∗ (bigSep Finset.univ fun i => iprop(atPos ER (kcell (c, i)) 0 ∅ 0 ∗ reached ER (kcell (c, i)) 0)) ∗ payToks c) : sProp 𝕄)
      ⊢ bigSep Finset.univ (G' m) := by
  rw [bigSep_sep', bigSep_sep', ← bigSep_univ_prod (fun ci : Dev nD × CIx => iprop(∃ κ : ℕ, cellInv ER (sched m) κ (kcell ci))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ci : Dev nD × CIx => (reached ER (kcell ci) 0 : sProp 𝕄))]
  iintro ⟨HI, ⟨Hat, #HR⟩, Htok⟩
  ihave HK := (BI.bigSep_exists_pi Finset.univ (fun (ci : Dev nD × CIx) (κ : ℕ) => (cellInv ER (sched m) κ (kcell ci) : sProp 𝕄))) $$ HI
  icases HK with ⟨%K, #HI⟩
  iapply (BI.bigSep_with_persistent (R := records m K) (Φ := fun c => linear c) fun c _ => show iprop(records m K ∗ linear c) ⊢ G' m c from by
    unfold G'
    iintro H
    iexists K
    iexact H)
  isplitr
  · unfold records; isplitl; · iexact HI
    iexact HR
  · unfold linear
    iapply (zip_sep (F := F))
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem ready_inj {a b a' b' : Dev nD} (h : readyCell a b = readyCell a' b') : a = a' ∧ b = b' := by
  have h1 : a = a' := congrArg (fun g : GSem nD τ sig => g.1.1) h
  have h2 := (kind_ready b).symm.trans ((congrArg (fun g : GSem nD τ sig => kindOf g.2) h).trans (kind_ready b'))
  injection h2 with h2
  exact ⟨h1, h2⟩
theorem recv_inj {a b a' b' : Dev nD} (h : recvCell a b = recvCell a' b') : a = a' ∧ b = b' := by
  have h1 : a = a' := congrArg (fun g : GSem nD τ sig => g.1.1) h
  have h2 := (kind_recv b).symm.trans ((congrArg (fun g : GSem nD τ sig => kindOf g.2) h).trans (kind_recv b'))
  injection h2 with h2
  exact ⟨h1, h2⟩

/-- Of the fifteen steps of device `d`, one goes to device `c`'s cell for `t` if `d` is `t`, and none otherwise. -/
theorem sum_steps (g : Dev nD → Dev nD → GSem nD τ sig) (hg : ∀ {a b a' b'}, g a b = g a' b' → a = a' ∧ b = b') (k : ℕ) {c t : Dev nD} (h : t ≠ c) (d : Dev nD) :
    (∑ r ∈ Finset.Ico 0 15, if g c t = g (tgt d r) d then k else 0) = if d = t then k else 0 := by
  by_cases hd : d = t
  · subst hd
    have hc : c ∈ insert d ((Finset.range 15).image (tgt d)) := by rw [← univ_eq_tgt]; exact Finset.mem_univ c
    obtain ⟨r, hr, he⟩ := Finset.mem_image.mp ((Finset.mem_insert.mp hc).resolve_left fun e => h e.symm)
    rw [if_pos rfl, Finset.sum_eq_single r, if_pos (by rw [he])]
    · intro r' hr' hne
      refine if_neg fun hh => hne ?_
      exact tgt_injOn d (by simpa using hr') (by simpa using hr) ((hg hh).1.symm.trans he.symm)
    · intro hn; exact absurd (by rw [← Finset.range_eq_Ico]; exact hr) hn
  · rw [if_neg hd]
    exact Finset.sum_eq_zero fun r _ => if_neg fun hh => hd (hg hh).2.symm

theorem OR_zero {d : Dev nD} {n : ℕ} {g : GSem nD τ sig} {u : Unit} (h : ∀ t, kindOf g.2 ≠ .ready t) : OR d n g u = 0 := by
  by_contra hn
  obtain ⟨r, _, rfl⟩ := sum_tally_pos (Nat.pos_of_ne_zero hn)
  exact h _ (kind_ready _)
theorem OV_zero {d : Dev nD} {n : ℕ} {g : GSem nD τ sig} {u : Unit} (h : ∀ s, kindOf g.2 ≠ .recv s) : OV d n g u = 0 := by
  by_contra hn
  obtain ⟨r, _, rfl⟩ := sum_tally_pos (Nat.pos_of_ne_zero hn)
  exact h _ (kind_recv _)
theorem bar_zero {d : Dev nD} {g : GSem nD τ sig} (h : kindOf g.2 ≠ .bar) : (tallyAt (barCell d) () 1 : CellTallies nD τ sig Unit) g () = 0 := by
  rw [tallyAt_apply]
  exact if_neg fun hh => h (by rw [hh.1]; exact kind_bar)

theorem O₀_apply (d : Dev nD) (g : GSem nD τ sig) :
    O₀ d g () = OV d 0 g () + OR d 0 g () + (tallyAt (barCell d) () 1 : CellTallies nD τ sig Unit) g () := by
  unfold O₀; rw [Pi.add_apply, Finsupp.add_apply, Pi.add_apply, Finsupp.add_apply]

theorem owed_ready {c t : Dev nD} (h : t ≠ c) (d : Dev nD) : O₀ d (readyCell c t) () = if d = t then 1 else 0 := by
  rw [O₀_apply, OV_zero (fun s => by rw [kind_ready]; exact (fun e => by cases e)), bar_zero (by rw [kind_ready]; exact fun e => by cases e), Nat.zero_add, Nat.add_zero]
  unfold OR
  rw [sum_tally_apply, sum_steps readyCell ready_inj 1 h]
theorem owed_recv {c t : Dev nD} (h : t ≠ c) (d : Dev nD) : O₀ d (recvCell c t) () = if d = t then N else 0 := by
  rw [O₀_apply, OR_zero (fun s => by rw [kind_recv]; exact (fun e => by cases e)), bar_zero (by rw [kind_recv]; exact fun e => by cases e), Nat.add_zero]
  unfold OV
  rw [sum_tally_apply, sum_steps recvCell recv_inj N h]
theorem owed_bar (c d : Dev nD) : O₀ d (barCell c) () = if d = c then 1 else 0 := by
  rw [O₀_apply, OR_zero (fun s => by rw [kind_bar]; exact (fun e => by cases e)), OV_zero (fun s => by rw [kind_bar]; exact (fun e => by cases e)), Nat.zero_add, tallyAt_apply]
  exact if_congr ⟨fun hh => (congrArg (fun g : GSem nD τ sig => g.1.1) hh.1).symm, fun hh => ⟨by rw [hh], rfl⟩⟩ rfl rfl

/-- What the mesh owes a cell, when it owes it `k` through one device. -/
theorem launch_of {g : GSem nD τ sig} {k : ℕ} (t : Dev nD) (h : ∀ d, O₀ d g () = if d = t then k else 0) :
    tallyOn g (launchCredit (Pipeline.owing O₀) 0 g) = (tallyAt g () k : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ t fun _ => k,
    if_pos (Finset.mem_univ _)]

omit [FloatOps F] in
theorem subset_sep {I : Type} {S T : Finset I} (h : S ⊆ T) (Φ : I → sProp 𝕄) : (bigSep T Φ : sProp 𝕄) ⊢ bigSep S Φ := by
  classical
  rw [← Finset.union_sdiff_of_subset h, bigSep_union Finset.disjoint_sdiff]
  show iprop(bigSep S Φ ∗ bigSep (T \ S) Φ) ⊢ _
  iintro ⟨H, -⟩
  iexact H

theorem creds (c : Dev nD) : (Pipeline.launchCred O₀ c : sProp 𝕄) ⊢ credits c := by
  have h1 : (Pipeline.launchCred O₀ c : sProp 𝕄)
      ⊢ bigSep Finset.univ fun i : CIx => cred (tallyOn (kcell (c, i)) (launchCredit (Pipeline.owing O₀) 0 (kcell (c, i)))) := by
    unfold Pipeline.launchCred
    refine (subset_sep (Finset.subset_univ (Finset.univ.map ⟨csem, csem_injective⟩)) _).trans ?_
    rw [bigSep_map]; rfl
  refine h1.trans ?_
  rw [cix_split c (fun g => cred (tallyOn g (launchCredit (Pipeline.owing O₀) 0 g)))]
  unfold credits
  iintro ⟨⟨⟨-, Hr⟩, ⟨-, Hv⟩, -⟩, Hb⟩
  isplitl [Hb]
  · rw [launch_of c (owed_bar c)]; iexact Hb
  isplitl [Hr]
  · iapply (each (S := Finset.range 15) (Φ := fun r => cred (tallyOn (readyCell c (tgt c r)) (launchCredit (Pipeline.owing O₀) 0 (readyCell c (tgt c r)))))
      (Ψ := fun r => cred (tallyAt (readyCell c (tgt c r)) () 1)) fun r hr =>
      Entails.of_eq (by rw [launch_of (tgt c r) (owed_ready (tgt_ne c (Finset.mem_range.mp hr)))]))
    iexact Hr
  · iapply (each (S := Finset.range 15) (Φ := fun r => cred (tallyOn (recvCell c (src c r)) (launchCredit (Pipeline.owing O₀) 0 (recvCell c (src c r)))))
      (Ψ := fun r => cred (tallyAt (recvCell c (src c r)) () N)) fun r hr =>
      Entails.of_eq (by rw [launch_of (src c r) (owed_recv (src_ne c (Finset.mem_range.mp hr)))]))
    iexact Hv

/-! ## The run -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems_eq]
  iintro ⟨⟨Hz, Hu⟩, Hr⟩
  isplitl [Hu]; · iexact Hu
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair run of the sixteen devices, from any memory with zero counters and for any float values, ends; at the end each array of each device
    holds the computed contents and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The three input arrays hold after the run what they held; -/
theorem finalA_in (c : Dev nD) : finalA m ρ c (0 : Fin 4) = m ((c : Thread nD τ).loc main_arg0)
    ∧ finalA m ρ c (1 : Fin 4) = m ((c : Thread nD τ).loc main_arg1) ∧ finalA m ρ c (2 : Fin 4) = m ((c : Thread nD τ).loc main_arg2) :=
  ⟨(dats (F := F) m ρ 0 c).arrAt_in (0 : Fin 4) rfl _, (dats (F := F) m ρ 0 c).arrAt_in (1 : Fin 4) rfl _, (dats (F := F) m ρ 0 c).arrAt_in (2 : Fin 4) rfl _⟩

end Cert.Exchange

end
-- ==== Proof.Pay.lean ====
/-
# The body's values at the ideal instance, entry by entry

One device's weights are the exponentials of its scaled scores; its two partial sums are the sum of the weights
and the weighted sum of V.
-/
module

public import proofs.«01_k».proof.Proof.Gen.KernelIdeal
public import proofs.«01_k».proof.Proof.Gen.KernelIdeal.Skeleton
public import Idealize.ShloMosaic.Lib.Pointwise

@[expose] public section

set_option maxRecDepth 16384

noncomputable section

namespace Cert.Exchange

open Cert.KernelIdeal Cert.KernelIdeal.Gen
open Idealize.ShloMosaic

/-- The scale, an eighth, as it is printed. -/
abbrev eighth : EReal := Ideal.ofBits .f32 0x3E000000#32

/-- The weight of key `k` for query `(b, h)`. -/
theorem pay1_apply (q : Vec Ideal S8x1x8x64 .f32) (x : Vec Ideal S8x512x8x64 .f32) (b h : Fin 8) (k : Fin 512) :
    k0_pay1 (F := Ideal) q x (ix3 b h k) = Ideal.exp (∑ d : Fin 64, x (ix4 b k h d) * (q (ix4 b 0 h d) * eighth)) := by
  pointwise [k0_pay1]

/-- The sum of the weights. -/
theorem pay2_apply (q : Vec Ideal S8x1x8x64 .f32) (x : Vec Ideal S8x512x8x64 .f32) (b h : Fin 8) :
    k0_pay2 (F := Ideal) q x (ix2 b h) = ∑ k : Fin 512, k0_pay1 (F := Ideal) q x (ix3 b h k) := by
  pointwise [k0_pay2]

/-- The weighted sum of the values. -/
theorem pay3_apply (q : Vec Ideal S8x1x8x64 .f32) (x v : Vec Ideal S8x512x8x64 .f32) (b h : Fin 8) (d : Fin 64) :
    k0_pay3 (F := Ideal) q x v (ix3 b h d) = ∑ k : Fin 512, k0_pay1 (F := Ideal) q x (ix3 b h k) * v (ix4 b k h d) := by
  pointwise [k0_pay3]

/-- The stores lay the two partial sums out without changing them. -/
theorem pay4_apply (o : FVec Ideal S8x8x64 .bf16) (b h : Fin 8) (d : Fin 64) : k0_pay4 (F := Ideal) o (ix4 0 b h d) = o (ix3 b h d) := by
  pointwise [k0_pay4]

theorem pay5_apply (l : FVec Ideal S8x8 .f32) (b h : Fin 8) : k0_pay5 (F := Ideal) l (ix4 0 0 b h) = l (ix2 b h) := by
  pointwise [k0_pay5]

end Cert.Exchange

end
-- ==== Proof.RefVal.lean ====
/-
# The reference's result at the ideal instance, entry by entry
-/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.Softmax

open Cert.ReferenceIdeal Cert.ReferenceIdeal.Gen
open Idealize.ShloMosaic

variable (q : FVec Ideal S8x1x8x64 .f32) (x v : FVec Ideal S8x8192x8x64 .f32)

/-- The scaled scores, as the reference computes them. -/
def scores : FVec Ideal S8x8x1x8192 .f32 :=
  mulf (Host.dotGeneral dot_S8x1x8x64_S8x8192x8x64_S8x8x1x8192_3_3_1_1_02_02 none q x) (broadcastInDim S8x8x1x8192 ![] bcast_S_S8x8x1x8192 (constant S_ .f32 0x3E000000#32))

/-- The greatest score of a query. -/
def top : FVec Ideal S8x8x1 .f32 :=
  Host.reduce FloatOps.maximumf (scores q x) (constant S_ .f32 0xFF800000#32) reducesTo_S8x8x1x8192_S8x8x1_d3 h_S_

/-- The weights, taken from the greatest score. -/
def weights : FVec Ideal S8x8x1x8192 .f32 :=
  Host.exp (subf (scores q x) (broadcastInDim S8x8x1x8192 ![0, 1, 2, 3] bcast_S8x8x1x1_S8x8x1x8192_0_1_2_3 (broadcastInDim S8x8x1x1 ![0, 1, 2] bcast_S8x8x1_S8x8x1x1_0_1_2 (top q x))))

/-- The sum of the weights. -/
def norm : FVec Ideal S8x8x1 .f32 := Host.reduceAdd (weights q x) (constant S_ .f32 0x00000000#32) reducesTo_S8x8x1x8192_S8x8x1_d3 h_S_

/-- The reference's result. -/
def result : FVec Ideal S8x1x8x64 .f32 :=
  transpose S8x1x8x64 [0, 3, 1, 2] (Host.dotGeneral dot_S8x8192x8x64_S8x8x1x8192_S8x8x64x1_1_3_3_2_02_01 none v
    (Host.divf (weights q x) (broadcastInDim S8x8x1x8192 ![0, 1, 2, 3] bcast_S8x8x1x1_S8x8x1x8192_0_1_2_3 (broadcastInDim S8x8x1x1 ![0, 1, 2] bcast_S8x8x1_S8x8x1x1_0_1_2 (norm q x)))))
    transposes_S8x8x64x1_S8x1x8x64_0_3_1_2

theorem scores_apply (b h : Fin 8) (k : Fin 8192) :
    scores q x (ix4 b h 0 k) = (∑ d : Fin 64, q (ix4 b 0 h d) * x (ix4 b k h d)) * Ideal.ofBits .f32 0x3E000000#32 := by
  pointwise [scores]

theorem top_apply (b h : Fin 8) :
    top q x (ix3 b h 0) = Finset.univ.fold max (Ideal.ofBits .f32 0xFF800000#32) fun k : Fin 8192 => scores q x (ix4 b h 0 k) := by
  pointwise [top]

theorem weights_apply (b h : Fin 8) (k : Fin 8192) :
    weights q x (ix4 b h 0 k) = Ideal.exp (scores q x (ix4 b h 0 k) - top q x (ix3 b h 0)) := by
  pointwise [weights]

theorem norm_apply (b h : Fin 8) : norm q x (ix3 b h 0) = ∑ k : Fin 8192, weights q x (ix4 b h 0 k) := by
  pointwise [norm]

theorem result_apply (b h : Fin 8) (d : Fin 64) :
    result q x v (ix4 b 0 h d) = ∑ k : Fin 8192, v (ix4 b k h d) * Ideal.div (weights q x (ix4 b h 0 k)) (norm q x (ix3 b h 0)) := by
  pointwise [result]

end Cert.Softmax

end
-- ==== Proof.Math.lean ====
/-
# The softmax quotient does not depend on where the exponentials are taken from

Over the extended reals, with finite scores `s` and any values `v`: the quotient of the sums of `exp (s k) * v k` and of
`exp (s k)` is the sum of the `v k` against the weights `exp (s k - M)` divided by their sum.
-/
module

public import Idealize.ShloMosaic.PureOps.Ideal
public import Idealize.ShloMosaic.PureOps.Ideal.Laws

@[expose] public section

noncomputable section

namespace Cert.Softmax

open Idealize.ShloMosaic

/-- A real sum read in the extended reals. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A nonnegative real factor goes into a sum of extended reals. -/
theorem sum_mul_coe {ι : Type} (t : Finset ι) (f : ι → EReal) {c : ℝ} (hc : 0 ≤ c) : (∑ k ∈ t, f k) * (c : EReal) = ∑ k ∈ t, f k * (c : EReal) := by
  classical
  induction t using Finset.induction_on with
  | empty => simp
  | insert a t ha ih =>
    rw [Finset.sum_insert ha, Finset.sum_insert ha, EReal.right_distrib_of_nonneg_of_ne_top (EReal.coe_nonneg.mpr hc) (EReal.coe_ne_top c), ih]

/-- The greatest of finitely many reals, at least one, is a real. -/
theorem fold_max_coe {ι : Type} (t : Finset ι) (ht : t.Nonempty) (s : ι → ℝ) : ∃ M : ℝ, (t.fold max (⊥ : EReal) fun k => (s k : EReal)) = (M : EReal) := by
  have h1 : (t.fold max (⊥ : EReal) fun k => (s k : EReal)) ≠ ⊤ := by
    refine ne_of_lt (Finset.fold_max_lt _ |>.mpr ⟨bot_lt_top, fun k _ => EReal.coe_lt_top _⟩)
  have h2 : (t.fold max (⊥ : EReal) fun k => (s k : EReal)) ≠ ⊥ := by
    obtain ⟨k, hk⟩ := ht
    exact ne_of_gt (Finset.lt_fold_max _ |>.mpr (Or.inr ⟨k, hk, EReal.bot_lt_coe _⟩))
  exact ⟨_, (EReal.coe_toReal h1 h2).symm⟩

/-- The quotient of the two sums, with the exponentials taken from `0` and from `M`. -/
theorem quotient_eq {n : ℕ} (hn : 0 < n) (s : Fin n → ℝ) (M : ℝ) (v : Fin n → EReal) :
    Ideal.div (∑ k, Ideal.exp (s k : EReal) * v k) (∑ k, Ideal.exp (s k : EReal))
      = ∑ k, v k * Ideal.div (Ideal.exp ((s k : EReal) - (M : EReal))) (∑ k', Ideal.exp ((s k' : EReal) - (M : EReal))) := by
  haveI : Nonempty (Fin n) := ⟨⟨0, hn⟩⟩
  have hpos : 0 < ∑ k, Real.exp (s k) := Finset.sum_pos (fun k _ => Real.exp_pos _) Finset.univ_nonempty
  have hpos' : 0 < ∑ k, Real.exp (s k - M) := Finset.sum_pos (fun k _ => Real.exp_pos _) Finset.univ_nonempty
  have hsplit : ∑ k, Real.exp (s k - M) = (∑ k, Real.exp (s k)) * (Real.exp M)⁻¹ := by
    rw [Finset.sum_mul]
    exact Finset.sum_congr rfl fun k _ => by rw [Real.exp_sub, div_eq_mul_inv]
  have hden : (∑ k, Ideal.exp (s k : EReal)) = ((∑ k, Real.exp (s k) : ℝ) : EReal) := by
    rw [coe_sum]; exact Finset.sum_congr rfl fun k _ => Ideal.exp_coe _
  have hterm : ∀ k, Ideal.exp ((s k : EReal) - (M : EReal)) = ((Real.exp (s k - M) : ℝ) : EReal) := fun k => by
    rw [← EReal.coe_sub]; exact Ideal.exp_coe _
  have hden' : (∑ k, Ideal.exp ((s k : EReal) - (M : EReal))) = ((∑ k, Real.exp (s k - M) : ℝ) : EReal) := by
    rw [coe_sum]; exact Finset.sum_congr rfl fun k _ => hterm k
  rw [hden, hden', Ideal.div_coe hpos.ne', sum_mul_coe _ _ (by positivity)]
  refine Finset.sum_congr rfl fun k _ => ?_
  rw [Ideal.div_coe hpos'.ne', hterm, show Ideal.exp (s k : EReal) = ((Real.exp (s k) : ℝ) : EReal) from Ideal.exp_coe _, mul_comm _ (v k), mul_assoc,
    ← EReal.coe_mul, ← EReal.coe_mul, hsplit, Real.exp_sub]
  congr 2
  have := Real.exp_ne_zero M
  have := hpos.ne'
  field_simp

end Cert.Softmax

end
-- ==== Proof.Value.lean ====
/-
# The result of the sixteen devices is the reference's

The slots a device adds up are the partial sums of all sixteen devices, so the two sums it divides run over all
8192 keys; with finite scores the quotient is the softmax average of the reference.
-/
module

public import proofs.«01_k».proof.Proof.Run
public import proofs.«01_k».proof.Proof.Pay
public import proofs.«01_k».proof.Proof.RefVal
public import proofs.«01_k».proof.Proof.Math
public import Idealize.ShloMosaic.Lib.Layout
public import Idealize.ShloMosaic.Lib.LayoutAt

@[expose] public section

set_option maxRecDepth 16384

noncomputable section

namespace Cert.Exchange

open Cert.KernelIdeal Cert.KernelIdeal.Gen
open Idealize.ShloMosaic Idealize.ShloMosaic.Pipeline
open Idealize.ShloMosaic.TcCoe

/-! ## The arrays a device reads and writes -/

section Arrays

variable {F : FTy → Type} [FloatOps F] (m : (ℓ : Loc nD τ sig) → Buf (Elt F) ℓ) (ρ : Dev nD → PrngReg) (c : Dev nD)

/-- The block a window stages is the whole array: the queries, -/
theorem xq_eq : xq m c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
/-- the keys, -/
theorem xk_eq : xk m c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _
/-- and the values. -/
theorem xv_eq : xv m c = m ((c : Thread nD τ).loc main_arg2) :=
  Memref.read_access_unit_zero (Elt F) main_arg2 (off := fun a => (win0_2.index (0 : Fin 1)) a * main_arg2.ty.shape.size a)
    (funext fun a => by fin_cases a <;> decide) (fun a => by fin_cases a <;> decide) _

/-- The result array read through its window is what the device stored; -/
theorem read_out : (win0_3.blk (0 : Fin 1)).view.read (Elt F) (finalA m ρ c (3 : Fin 4)) = outAt m c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

/-- so it is what the device stored. -/
theorem finalA_out : finalA m ρ c (3 : Fin 4) = outAt m c :=
  (Memref.read_access_unit_zero (Elt F) main_v1 (off := fun a => (win0_3.index (0 : Fin 1)) a * main_v1.ty.shape.size a)
    (funext fun a => by fin_cases a <;> decide) (fun a => by fin_cases a <;> decide) _).symm.trans (read_out m ρ c)

end Arrays

/-! ## The sum over the devices -/

/-- The sum of the slots at the ideal instance. -/
theorem sumAt_ideal (x0 : Vec Ideal S1x9x8x64 .bf16) (x : ℕ → Vec Ideal S1x9x8x64 .bf16) (i : S9x8x64.Idx) (n : ℕ) :
    (sumAt x0 x i n : EReal) = k0_pay6 (F := Ideal) x0 i + ∑ r ∈ Finset.range n, (k0_pay6 (F := Ideal) (x r) i : EReal) := by
  induction n with
  | zero => rw [Finset.sum_range_zero, add_zero]; rfl
  | succ n ih =>
    rw [Finset.sum_range_succ, ← add_assoc, ← ih]; rfl

/-- The own device and the fifteen it receives from are all the devices. -/
theorem sum_dev (c : Dev nD) (f : Dev nD → EReal) : f c + ∑ r ∈ Finset.range 15, f (src c r) = ∑ s, f s := by
  have hn : c ∉ (Finset.range 15).image (src c) := fun h => by
    obtain ⟨r, hr, he⟩ := Finset.mem_image.mp h
    exact src_ne c (Finset.mem_range.mp hr) he
  rw [univ_eq_src c, Finset.sum_insert hn, Finset.sum_image (src_injOn c)]

/-- Key `k` of device `s`, among all the keys. -/
def key (s : Fin 16) (k : Fin 512) : Fin 8192 := ⟨s.val * 512 + k.val, by have := s.isLt; have := k.isLt; omega⟩

/-- The keys of all the devices are all the keys. -/
theorem sum_keys (f : Fin 8192 → EReal) : ∑ s : Fin 16, ∑ k : Fin 512, f (key s k) = ∑ k, f k := by
  rw [← Fintype.sum_prod_type' (f := fun s k => f (key s k))]
  exact Fintype.sum_equiv (finProdFinEquiv : Fin 16 × Fin 512 ≃ Fin (16 * 512)) _ _ fun x =>
    congrArg f (Fin.ext (by simp only [key, finProdFinEquiv, Equiv.coe_fn_mk]; omega))

variable (m : (ℓ : Loc nD τ sig) → Buf (Elt Ideal) ℓ)

/-- The first eight rows of a slot are the weighted sums of the values, -/
theorem slot_sums (s : Dev nD) (b h : Fin 8) (d : Fin 64) :
    k0_pay6 (F := Ideal) (slotVal m s) (ValueIdx.ix3 (Fin.castLE (by decide) b) h d) = k0_pay3 (F := Ideal) (xq m s) (xk m s) (xv m s) (ix3 b h d) := by
  rw [pay6_apply]
  show slotVal m s (ValueIdx.ix4 0 (Fin.castLE (by decide) b) h d) = _
  unfold slotVal
  rw [dif_pos (show ((ValueIdx.ix4 (0 : Fin 1) (Fin.castLE (by decide) b : Fin 9) h d) 1).val < 8 from b.isLt)]
  refine Eq.trans ?_ (pay4_apply _ b h d)
  unfold val4
  rw [ix4_eq_valueIdx]
  rfl

/-- the ninth holds the sums of the weights. -/
theorem slot_norms (s : Dev nD) (b h : Fin 8) :
    k0_pay6 (F := Ideal) (slotVal m s) (ValueIdx.ix3 8 b (Fin.castLE (by decide) h)) = k0_pay2 (F := Ideal) (xq m s) (xk m s) (ix2 b h) := by
  rw [pay6_apply]
  show slotVal m s (ValueIdx.ix4 0 8 b (Fin.castLE (by decide) h)) = _
  unfold slotVal
  rw [dif_neg (show ¬ ((ValueIdx.ix4 (0 : Fin 1) (8 : Fin 9) b (Fin.castLE (by decide) h : Fin 64)) 1).val < 8 from lt_irrefl 8)]
  refine Eq.trans ?_ (pay5_apply _ b h)
  unfold val5
  rw [ix4_eq_valueIdx]
  refine congrArg (fun z => k0_pay5 (F := Ideal) _ (ValueIdx.ix4 0 0 b z)) (Fin.ext (Nat.mod_eq_of_lt h.isLt))

/-- A device's result: the sum of the weighted sums over the sum of the sums of the weights. -/
theorem outAt_apply (c : Dev nD) (b h : Fin 8) (d : Fin 64) :
    outAt m c (ix4 b 0 h d) = Ideal.div (∑ s : Dev nD, k0_pay3 (F := Ideal) (xq m s) (xk m s) (xv m s) (ix3 b h d))
      (∑ s : Dev nD, k0_pay2 (F := Ideal) (xq m s) (xk m s) (ix2 b h)) := by
  unfold outAt
  rw [ix4_eq_valueIdx, outOf_apply, sumAt_ideal, sumAt_ideal]
  rw [sum_dev c fun s => (k0_pay6 (F := Ideal) (slotVal m s) _ : EReal), sum_dev c fun s => (k0_pay6 (F := Ideal) (slotVal m s) _ : EReal)]
  rw [Finset.sum_congr rfl fun s _ => slot_sums m s b h d, Finset.sum_congr rfl fun s _ => slot_norms m s b h]
  rfl

/-! ## The result is the reference's -/

/-- The scale is a real number. -/
theorem eighth_real : ∃ e : ℝ, eighth = (e : EReal) := by
  simp only [eighth, Ideal.ofBits, Ideal.ieee]
  rw [if_neg (by decide), if_neg (by decide)]
  exact ⟨_, rfl⟩

/-- The starting value of the maximum is the least extended real. -/
theorem bot_bits : Ideal.ofBits .f32 0xFF800000#32 = ⊥ := by simp [Ideal.ofBits, Ideal.ieee]

/-- A block of the whole array, entry by entry. -/
theorem block_key (A : Vec Ideal ⟨4, ![8, 8192, 8, 64]⟩ .f32) (s : Fin 16) (b h : Fin 8) (k : Fin 512) (d : Fin 64) :
    Layout.block ⟨4, ![8, 512, 8, 64]⟩ ⟨4, ![8, 8192, 8, 64]⟩ 1 16 s A (by decide) (ix4 b k h d) = A (ix4 b (key s k) h d) := by
  rw [Layout.block_apply]
  refine congrArg A (funext fun a => Fin.ext ?_)
  rw [Layout.Tiles.idx_val]
  fin_cases a <;> rfl

/-- With finite queries and keys, each device's result is the reference's of the whole arrays. -/
theorem outAt_eq (Q : Vec Ideal S8x1x8x64 .f32) (K V : Vec Ideal ⟨4, ![8, 8192, 8, 64]⟩ .f32)
    (hq : ∀ s, xq m s = Q)
    (hk : ∀ s, xk m s = Layout.block ⟨4, ![8, 512, 8, 64]⟩ ⟨4, ![8, 8192, 8, 64]⟩ 1 16 s K)
    (hv : ∀ s, xv m s = Layout.block ⟨4, ![8, 512, 8, 64]⟩ ⟨4, ![8, 8192, 8, 64]⟩ 1 16 s V)
    (fq : ∀ i, ∃ r : ℝ, Q i = (r : EReal)) (fk : ∀ i, ∃ r : ℝ, K i = (r : EReal)) (c : Dev nD) :
    outAt m c = Cert.Softmax.result Q K V := by
  obtain ⟨e, he⟩ := eighth_real
  choose qr hqr using fq
  choose kr hkr using fk
  funext i
  obtain ⟨b, h, d, rfl⟩ : ∃ (b h : Fin 8) (d : Fin 64), i = ix4 b (0 : Fin 1) h d := by
    refine ⟨i 0, i 2, i 3, funext fun a => ?_⟩
    fin_cases a
    · rfl
    · exact Subsingleton.elim (α := Fin 1) _ _
    · rfl
    · rfl
  -- the scores are reals
  let s : Fin 8192 → ℝ := fun k => (∑ d : Fin 64, qr (ix4 b 0 h d) * kr (ix4 b k h d)) * e
  have hs : ∀ k, Cert.Softmax.scores Q K (ix4 b h 0 k) = (s k : EReal) := fun k => by
    rw [Cert.Softmax.scores_apply]
    show _ * eighth = _
    rw [he, EReal.coe_mul, Cert.Softmax.coe_sum]
    refine congrArg (· * (e : EReal)) (Finset.sum_congr rfl fun d _ => ?_)
    rw [hqr, hkr, EReal.coe_mul]
  have hp : ∀ (t : Dev nD) (k : Fin 512), k0_pay1 (F := Ideal) (xq m t) (xk m t) (ix3 b h k) = Ideal.exp (s (key t k) : EReal) := fun t k => by
    rw [pay1_apply, hq, hk, he]
    refine congrArg Ideal.exp ?_
    show _ = (((∑ d : Fin 64, qr (ix4 b 0 h d) * kr (ix4 b (key t k) h d)) * e : ℝ) : EReal)
    rw [Finset.sum_mul, Cert.Softmax.coe_sum]
    refine Finset.sum_congr rfl fun d _ => ?_
    rw [block_key, hqr, hkr, ← EReal.coe_mul, ← EReal.coe_mul]
    exact congrArg _ (by ring)
  -- the two sums run over all the keys
  have h3 : (∑ t : Dev nD, k0_pay3 (F := Ideal) (xq m t) (xk m t) (xv m t) (ix3 b h d) : EReal) = ∑ k, Ideal.exp (s k : EReal) * V (ix4 b k h d) := by
    refine Eq.trans ?_ (sum_keys fun k => Ideal.exp (s k : EReal) * V (ix4 b k h d))
    refine Finset.sum_congr rfl fun t _ => ?_
    rw [pay3_apply]
    refine Finset.sum_congr rfl fun k _ => ?_
    rw [hp, hv, block_key]
  have h2 : (∑ t : Dev nD, k0_pay2 (F := Ideal) (xq m t) (xk m t) (ix2 b h) : EReal) = ∑ k, Ideal.exp (s k : EReal) := by
    refine Eq.trans ?_ (sum_keys fun k => Ideal.exp (s k : EReal))
    refine Finset.sum_congr rfl fun t _ => ?_
    rw [pay2_apply]
    exact Finset.sum_congr rfl fun k _ => hp t k
  -- the greatest score is a real
  obtain ⟨M, hM⟩ := Cert.Softmax.fold_max_coe (Finset.univ : Finset (Fin 8192)) ⟨0, Finset.mem_univ _⟩ s
  have ht : Cert.Softmax.top Q K (ix3 b h 0) = (M : EReal) := by
    rw [Cert.Softmax.top_apply, bot_bits, ← hM]
    exact congrArg (Finset.fold max ⊥ · Finset.univ) (funext hs)
  rw [outAt_apply, h3, h2, Cert.Softmax.quotient_eq (by decide) s M, Cert.Softmax.result_apply]
  have hw : ∀ k, Cert.Softmax.weights Q K (ix4 b h 0 k) = Ideal.exp ((s k : EReal) - (M : EReal)) := fun k => by
    rw [Cert.Softmax.weights_apply, hs, ht]
  refine Finset.sum_congr rfl fun k _ => ?_
  have hn : Cert.Softmax.norm Q K (ix3 b h 0) = ∑ k', Ideal.exp ((s k' : EReal) - (M : EReal)) :=
    (Cert.Softmax.norm_apply Q K b h).trans (Finset.sum_congr rfl fun k' _ => hw k')
  rw [hw, hn]

/-- An entry whose absolute value is below the greatest extended real is a real number. -/
theorem real_of_abs_lt {x : EReal} (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  have hlt : max x (-x) < ⊤ := by
    by_contra hn
    exact absurd h (by simp [Ideal.cmp, hn])
  have h1 : x ≠ ⊤ := ((le_max_left x (-x)).trans_lt hlt).ne
  have h2 : x ≠ ⊥ := fun hb => by
    have := ((le_max_right x (-x)).trans_lt hlt).ne
    rw [hb, EReal.neg_bot] at this
    exact this rfl
  exact ⟨_, (EReal.coe_toReal h1 h2).symm⟩

/-- If every device's block of an array holds reals, so does the array. -/
theorem real_of_blocks (A : Vec Ideal ⟨4, ![8, 8192, 8, 64]⟩ .f32)
    (hA : ∀ (s : Fin 16) (j : S8x512x8x64.Idx), ∃ r : ℝ, Layout.block ⟨4, ![8, 512, 8, 64]⟩ ⟨4, ![8, 8192, 8, 64]⟩ 1 16 s A (by decide) j = (r : EReal))
    (i : (⟨4, ![8, 8192, 8, 64]⟩ : Shape).Idx) : ∃ r : ℝ, A i = (r : EReal) := by
  have hi : (i 1).val < 8192 := (i 1).isLt
  have hb := block_key A ⟨(i 1).val / 512, by omega⟩ (i 0) (i 2) ⟨(i 1).val % 512, Nat.mod_lt _ (by decide)⟩ (i 3)
  have hix : i = ix4 (n0 := 8) (n1 := 8192) (n2 := 8) (n3 := 64) (i 0) (key ⟨(i 1).val / 512, by omega⟩ ⟨(i 1).val % 512, Nat.mod_lt _ (by decide)⟩) (i 2) (i 3) := by
    funext a
    fin_cases a
    · rfl
    · exact Fin.ext (Nat.div_add_mod' _ _).symm
    · rfl
    · rfl
  rw [hix, ← hb]
  exact hA _ _

end Cert.Exchange

end
-- ==== Proof.lean ====
/- The proof of the claims of the statement: the kernel's run on sixteen devices (Proof/Run.lean) read at its arguments
   and its result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The ideal kernel ends on every input with the counters at zero and the arguments as they were. -/
theorem frame_ideal : Cert.quiescent_KernelIdeal := fun m ρ _ =>
  (θ_run Cert.KernelIdeal.defs _ _).mono (fun _ h => ⟨fun c =>
      ⟨(h.1 c (0 : Fin 4)).trans (Cert.Exchange.finalA_in m ρ c).1, (h.1 c (1 : Fin 4)).trans (Cert.Exchange.finalA_in m ρ c).2.1,
        (h.1 c (2 : Fin 4)).trans (Cert.Exchange.finalA_in m ρ c).2.2⟩, h.2⟩)
    (Cert.Exchange.run_main (F := Ideal) m ρ)

set_option maxRecDepth 20000 in
/-- The kernel and the ideal kernel are one text: their body tables are equal at the bit-exact instance, -/
theorem defs₀_eq : Cert.Kernel.defs₀ (F := Bits) = Cert.KernelIdeal.defs₀ (F := Bits) := by
  unfold Cert.Kernel.defs₀ Cert.KernelIdeal.defs₀
  refine congrArg (Defs.onTc (Λ := Cert.KernelIdeal.Λ₀)) (funext fun l => ?_)
  obtain rfl : l = (0 : Fin 1) := Fin.fin_one_eq_zero l
  refine funext fun x => ?_
  rcases x with ⟨t, s⟩
  rfl

set_option maxRecDepth 20000 in
/-- and so are their whole tables. -/
theorem defs_eq : Cert.Kernel.defs (F := Bits) = Cert.KernelIdeal.defs (F := Bits) := by
  unfold Cert.Kernel.defs Cert.KernelIdeal.defs
  exact congrArg (Pipeline.defs (Cert.KernelIdeal.pcfgs (F := Bits))) defs₀_eq

/-- The kernel at the bit-exact instance: its text is the ideal kernel's, so the same run proves it. -/
theorem frame_kernel : Cert.quiescent_Kernel := by
  intro m ρ _
  rw [defs_eq]
  exact (θ_run (Cert.KernelIdeal.defs (F := Bits)) (onTc (τ := Cert.KernelIdeal.τ) (Cert.KernelIdeal.main (F := Bits))) (Cert.Exchange.s₀ m ρ)).mono
    (fun _ h => ⟨fun c =>
      ⟨(h.1 c (0 : Fin 4)).trans (Cert.Exchange.finalA_in m ρ c).1, (h.1 c (1 : Fin 4)).trans (Cert.Exchange.finalA_in m ρ c).2.1,
        (h.1 c (2 : Fin 4)).trans (Cert.Exchange.finalA_in m ρ c).2.2⟩, h.2⟩)
    (Cert.Exchange.run_main (F := Bits) m ρ)

/-- The reference is a list of host operations: it ends, its arguments unchanged, and it has no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The shapes the precondition's operations state, on one device's arrays, -/
theorem facts_pre : Cert.Pre_finite_qk_KernelIdeal.Facts := ⟨by decide, by decide⟩
/-- and on the whole arrays. -/
theorem facts_pre_reference : Cert.Pre_finite_qk_ReferenceIdeal.Facts := ⟨by decide, by decide⟩

/-- With finite queries and keys the sixteen devices each end with the reference's result. -/
theorem algebraic : Cert.algebraic_KernelIdeal_ReferenceIdeal_pre_finite_qk_KernelIdeal (hPre_finite_qk_KernelIdeal := facts_pre) := by
  intro m ρ m' ρ' hpre hagree
  have fq : ∀ i, ∃ r : ℝ, m' (((0 : Dev Cert.ReferenceIdeal.nD).tc : Thread _ Cert.ReferenceIdeal.τ).loc Cert.ReferenceIdeal.main_arg0) i = (r : EReal) := fun i => by
    have h := congrFun (hpre (0 : Fin 16)).1 i
    rw [(hagree (0 : Fin 16)).1] at h
    exact Cert.Exchange.real_of_abs_lt h
  have fk : ∀ i, ∃ r : ℝ, m' (((0 : Dev Cert.ReferenceIdeal.nD).tc : Thread _ Cert.ReferenceIdeal.τ).loc Cert.ReferenceIdeal.main_arg1) i = (r : EReal) :=
    Cert.Exchange.real_of_blocks _ fun s j => by
      have h := congrFun (hpre s).2 j
      rw [(hagree s).2.1] at h
      exact Cert.Exchange.real_of_abs_lt h
  have hval := Cert.Exchange.outAt_eq m _ _ _ (fun s => (Cert.Exchange.xq_eq m s).trans (hagree s).1) (fun s => (Cert.Exchange.xk_eq m s).trans (hagree s).2.1)
    (fun s => (Cert.Exchange.xv_eq m s).trans (hagree s).2.2) fq fk
  refine ⟨_, (θ_run Cert.KernelIdeal.defs _ _).mono (fun _ h c =>
      ⟨((h.1 c (3 : Fin 4)).trans (Cert.Exchange.finalA_out m ρ c)).trans (hval c), (h.1 c (0 : Fin 4)).trans (Cert.Exchange.finalA_in m ρ c).1,
        (h.1 c (1 : Fin 4)).trans (Cert.Exchange.finalA_in m ρ c).2.1, (h.1 c (2 : Fin 4)).trans (Cert.Exchange.finalA_in m ρ c).2.2⟩)
    (Cert.Exchange.run_main (F := Ideal) m ρ), ?_⟩
  exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts, facts_pre, facts_pre_reference,
  frame_kernel, frame_ideal, fun m ρ _ => frame_ideal m ρ trivial, frame_reference, fun m ρ _ => frame_reference m ρ trivial, trivial, algebraic⟩

end Cert.Proof

end
